-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_offsets_in_reach [hPre_offsets_in_reach : Cert.Pre_offsets_in_reach.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_in_reach [hPre_offsets_in_reach : Cert.Pre_offsets_in_reach.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_offsets_in_reach [hKernelIdeal : Cert.KernelIdeal.Facts] [hPre_offsets_in_reach : Cert.Pre_offsets_in_reach.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_offsets_in_reach m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_offsets_in_reach [hReferenceIdeal : Cert.ReferenceIdeal.Facts] [hPre_offsets_in_reach : Cert.Pre_offsets_in_reach.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_in_reach m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_offsets_in_reach [hKernelIdeal : Cert.KernelIdeal.Facts] [hReferenceIdeal : Cert.ReferenceIdeal.Facts] [hPre_offsets_in_reach : Cert.Pre_offsets_in_reach.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_offsets_in_reach m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_offsets_in_reach : Cert.Pre_offsets_in_reach.Facts),
    quiescent_Kernel (hKernel := hKernel)
    ∧ quiescent_KernelIdeal (hKernelIdeal := hKernelIdeal)
    ∧ quiescent_KernelIdeal_pre_offsets_in_reach (hKernelIdeal := hKernelIdeal) (hPre_offsets_in_reach := hPre_offsets_in_reach)
    ∧ quiescent_ReferenceIdeal (hReferenceIdeal := hReferenceIdeal)
    ∧ quiescent_ReferenceIdeal_pre_offsets_in_reach (hReferenceIdeal := hReferenceIdeal) (hPre_offsets_in_reach := hPre_offsets_in_reach)
    ∧ preserves_Kernel_KernelIdeal
    ∧ algebraic_KernelIdeal_ReferenceIdeal_pre_offsets_in_reach (hKernelIdeal := hKernelIdeal) (hReferenceIdeal := hReferenceIdeal) (hPre_offsets_in_reach := hPre_offsets_in_reach)
-- ==== Pre_offsets_in_reach.lean ====
abbrev S4x256x128x128 : Shape := ⟨4, ![4, 256, 128, 128]⟩
abbrev S18x256x3x3 : Shape := ⟨4, ![18, 256, 3, 3]⟩
abbrev S18 : Shape := ⟨1, ![18]⟩
abbrev S256x256x3x3 : Shape := ⟨4, ![256, 256, 3, 3]⟩
abbrev S_ : Shape := ⟨0, ![]⟩
abbrev S4x256x130x130 : Shape := ⟨4, ![4, 256, 130, 130]⟩
abbrev S18x256x1x1 : Shape := ⟨4, ![18, 256, 1, 1]⟩
abbrev S18x256 : Shape := ⟨2, ![18, 256]⟩
abbrev S4x128x128x18 : Shape := ⟨4, ![4, 128, 128, 18]⟩
abbrev S4x18x128x128 : Shape := ⟨4, ![4, 18, 128, 128]⟩

class Facts : Prop where
  pads_S4x256x128x128_S4x256x130x130_000_000_110_110 : S4x256x128x128.Pads (![0, 0, 1, 1] : Fin 4 → Nat) ![0, 0, 1, 1] ![0, 0, 0, 0] S4x256x130x130
  h_S_ : 0 < S_.numel
  slices_S4x256x130x130_S4x256x128x128_0_0_0_0 : S4x256x130x130.Slices ![0, 0, 0, 0] S4x256x128x128
  slices_S18x256x3x3_S18x256x1x1_0_0_0_0 : S18x256x3x3.Slices ![0, 0, 0, 0] S18x256x1x1
  shapeCasts_S18x256x1x1_S18x256 : S18x256x1x1.ShapeCasts S18x256
  slices_S4x256x130x130_S4x256x128x128_0_0_0_1 : S4x256x130x130.Slices ![0, 0, 0, 1] S4x256x128x128
  slices_S18x256x3x3_S18x256x1x1_0_0_0_1 : S18x256x3x3.Slices ![0, 0, 0, 1] S18x256x1x1
  slices_S4x256x130x130_S4x256x128x128_0_0_0_2 : S4x256x130x130.Slices ![0, 0, 0, 2] S4x256x128x128
  slices_S18x256x3x3_S18x256x1x1_0_0_0_2 : S18x256x3x3.Slices ![0, 0, 0, 2] S18x256x1x1
  slices_S4x256x130x130_S4x256x128x128_0_0_1_0 : S4x256x130x130.Slices ![0, 0, 1, 0] S4x256x128x128
  slices_S18x256x3x3_S18x256x1x1_0_0_1_0 : S18x256x3x3.Slices ![0, 0, 1, 0] S18x256x1x1
  slices_S4x256x130x130_S4x256x128x128_0_0_1_1 : S4x256x130x130.Slices ![0, 0, 1, 1] S4x256x128x128
  slices_S18x256x3x3_S18x256x1x1_0_0_1_1 : S18x256x3x3.Slices ![0, 0, 1, 1] S18x256x1x1
  slices_S4x256x130x130_S4x256x128x128_0_0_1_2 : S4x256x130x130.Slices ![0, 0, 1, 2] S4x256x128x128
  slices_S18x256x3x3_S18x256x1x1_0_0_1_2 : S18x256x3x3.Slices ![0, 0, 1, 2] S18x256x1x1
  slices_S4x256x130x130_S4x256x128x128_0_0_2_0 : S4x256x130x130.Slices ![0, 0, 2, 0] S4x256x128x128
  slices_S18x256x3x3_S18x256x1x1_0_0_2_0 : S18x256x3x3.Slices ![0, 0, 2, 0] S18x256x1x1
  slices_S4x256x130x130_S4x256x128x128_0_0_2_1 : S4x256x130x130.Slices ![0, 0, 2, 1] S4x256x128x128
  slices_S18x256x3x3_S18x256x1x1_0_0_2_1 : S18x256x3x3.Slices ![0, 0, 2, 1] S18x256x1x1
  slices_S4x256x130x130_S4x256x128x128_0_0_2_2 : S4x256x130x130.Slices ![0, 0, 2, 2] S4x256x128x128
  slices_S18x256x3x3_S18x256x1x1_0_0_2_2 : S18x256x3x3.Slices ![0, 0, 2, 2] S18x256x1x1
  bcast_S18_S4x128x128x18_3 : S18.BroadcastsInDim S4x128x128x18 (![3] : Fin 1 → Fin S4x128x128x18.rank)
  transposes_S4x128x128x18_S4x18x128x128_0_3_1_2 : S4x128x128x18.Transposes [0, 3, 1, 2] S4x18x128x128
  bcast_S_S4x18x128x128 : S_.BroadcastsInDim S4x18x128x128 (![] : Fin 0 → Fin S4x18x128x128.rank)
  dot_S4x256x128x128_S18x256_S4x128x128x18_1_1_023_0_n_n_wf : DotDims.WF S4x256x128x128 S18x256 S4x128x128x18 [1] [1] [0, 2, 3] [0] [] []

variable [Facts]

def dot_S4x256x128x128_S18x256_S4x128x128x18_1_1_023_0_n_n : DotDims S4x256x128x128 S18x256 S4x128x128x18 where
  lhsContracting := [1]
  rhsContracting := [1]
  lhsNonContracting := [0, 2, 3]
  rhsNonContracting := [0]
  lhsBatch := []
  rhsBatch := []
  wf := dot_S4x256x128x128_S18x256_S4x128x128x18_1_1_023_0_n_n_wf
def fn_part2 {F : FTy → Type} [FloatOps F] (main_v46 : FVec F S4x128x128x18 .f32) : IVec S4x18x128x128 1 :=
  let main_v47 : FVec F S4x18x128x128 .f32 := (transpose S4x18x128x128 [0, 3, 1, 2] · transposes_S4x128x128x18_S4x18x128x128_0_3_1_2) main_v46
  let main_cst_0 : FVec F S_ .f32 := constant S_ .f32 0xC0000000#32
  let main_v48 : FVec F S4x18x128x128 .f32 := broadcastInDim S4x18x128x128 ![] bcast_S_S4x18x128x128 main_cst_0
  let main_v49 : IVec S4x18x128x128 1 := cmpf .oge main_v47 main_v48
  let main_cst_1 : FVec F S_ .f32 := constant S_ .f32 0x40400000#32
  let main_v50 : FVec F S4x18x128x128 .f32 := broadcastInDim S4x18x128x128 ![] bcast_S_S4x18x128x128 main_cst_1
  let main_v51 : IVec S4x18x128x128 1 := cmpf .ole main_v47 main_v50
  let main_v52 : IVec S4x18x128x128 1 := andi main_v49 main_v51
  main_v52

def fn_part1 {F : FTy → Type} [FloatOps F] (main_arg1 : FVec F S18x256x3x3 .f32) (main_arg2 : FVec F S18 .f32) (main_v0 : FVec F S4x256x130x130 .f32) (main_v19 : FVec F S4x128x128x18 .f32) (main_v20 : FVec F S4x256x128x128 .f32) (main_v22 : FVec F S18x256 .f32) : IVec S4x18x128x128 1 :=
  let main_v23 : FVec F S4x128x128x18 .f32 := (fun l r => Host.dotGeneral dot_S4x256x128x128_S18x256_S4x128x128x18_1_1_023_0_n_n none l r) main_v20 main_v22
  let main_v24 : FVec F S4x128x128x18 .f32 := addf main_v19 main_v23
  let main_v25 : FVec F S4x256x128x128 .f32 := (extractStridedSlice S4x256x128x128 ![0, 0, 1, 2] · slices_S4x256x130x130_S4x256x128x128_0_0_1_2) main_v0
  let main_v26 : FVec F S18x256x1x1 .f32 := (extractStridedSlice S18x256x1x1 ![0, 0, 1, 2] · slices_S18x256x3x3_S18x256x1x1_0_0_1_2) main_arg1
  let main_v27 : FVec F S18x256 .f32 := shapeCast S18x256 main_v26 shapeCasts_S18x256x1x1_S18x256
  let main_v28 : FVec F S4x128x128x18 .f32 := (fun l r => Host.dotGeneral dot_S4x256x128x128_S18x256_S4x128x128x18_1_1_023_0_n_n none l r) main_v25 main_v27
  let main_v29 : FVec F S4x128x128x18 .f32 := addf main_v24 main_v28
  let main_v30 : FVec F S4x256x128x128 .f32 := (extractStridedSlice S4x256x128x128 ![0, 0, 2, 0] · slices_S4x256x130x130_S4x256x128x128_0_0_2_0) main_v0
  let main_v31 : FVec F S18x256x1x1 .f32 := (extractStridedSlice S18x256x1x1 ![0, 0, 2, 0] · slices_S18x256x3x3_S18x256x1x1_0_0_2_0) main_arg1
  let main_v32 : FVec F S18x256 .f32 := shapeCast S18x256 main_v31 shapeCasts_S18x256x1x1_S18x256
  let main_v33 : FVec F S4x128x128x18 .f32 := (fun l r => Host.dotGeneral dot_S4x256x128x128_S18x256_S4x128x128x18_1_1_023_0_n_n none l r) main_v30 main_v32
  let main_v34 : FVec F S4x128x128x18 .f32 := addf main_v29 main_v33
  let main_v35 : FVec F S4x256x128x128 .f32 := (extractStridedSlice S4x256x128x128 ![0, 0, 2, 1] · slices_S4x256x130x130_S4x256x128x128_0_0_2_1) main_v0
  let main_v36 : FVec F S18x256x1x1 .f32 := (extractStridedSlice S18x256x1x1 ![0, 0, 2, 1] · slices_S18x256x3x3_S18x256x1x1_0_0_2_1) main_arg1
  let main_v37 : FVec F S18x256 .f32 := shapeCast S18x256 main_v36 shapeCasts_S18x256x1x1_S18x256
  let main_v38 : FVec F S4x128x128x18 .f32 := (fun l r => Host.dotGeneral dot_S4x256x128x128_S18x256_S4x128x128x18_1_1_023_0_n_n none l r) main_v35 main_v37
  let main_v39 : FVec F S4x128x128x18 .f32 := addf main_v34 main_v38
  let main_v40 : FVec F S4x256x128x128 .f32 := (extractStridedSlice S4x256x128x128 ![0, 0, 2, 2] · slices_S4x256x130x130_S4x256x128x128_0_0_2_2) main_v0
  let main_v41 : FVec F S18x256x1x1 .f32 := (extractStridedSlice S18x256x1x1 ![0, 0, 2, 2] · slices_S18x256x3x3_S18x256x1x1_0_0_2_2) main_arg1
  let main_v42 : FVec F S18x256 .f32 := shapeCast S18x256 main_v41 shapeCasts_S18x256x1x1_S18x256
  let main_v43 : FVec F S4x128x128x18 .f32 := (fun l r => Host.dotGeneral dot_S4x256x128x128_S18x256_S4x128x128x18_1_1_023_0_n_n none l r) main_v40 main_v42
  let main_v44 : FVec F S4x128x128x18 .f32 := addf main_v39 main_v43
  let main_v45 : FVec F S4x128x128x18 .f32 := broadcastInDim S4x128x128x18 ![3] bcast_S18_S4x128x128x18_3 main_arg2
  let main_v46 : FVec F S4x128x128x18 .f32 := addf main_v44 main_v45
  fn_part2 (F := F) main_v46

def fn {F : FTy → Type} [FloatOps F] (main_arg0 : FVec F S4x256x128x128 .f32) (main_arg1 : FVec F S18x256x3x3 .f32) (main_arg2 : FVec F S18 .f32) (main_arg3 : FVec F S256x256x3x3 .f32) : IVec S4x18x128x128 1 :=
  let main_cst : FVec F S_ .f32 := constant S_ .f32 0x00000000#32
  let main_v0 : FVec F S4x256x130x130 .f32 := (fun x v => pad S4x256x130x130 ![0, 0, 1, 1] ![0, 0, 1, 1] ![0, 0, 0, 0] x v pads_S4x256x128x128_S4x256x130x130_000_000_110_110 h_S_) main_arg0 main_cst
  let main_v1 : FVec F S4x256x128x128 .f32 := (extractStridedSlice S4x256x128x128 ![0, 0, 0, 0] · slices_S4x256x130x130_S4x256x128x128_0_0_0_0) main_v0
  let main_v2 : FVec F S18x256x1x1 .f32 := (extractStridedSlice S18x256x1x1 ![0, 0, 0, 0] · slices_S18x256x3x3_S18x256x1x1_0_0_0_0) main_arg1
  let main_v3 : FVec F S18x256 .f32 := shapeCast S18x256 main_v2 shapeCasts_S18x256x1x1_S18x256
  let main_v4 : FVec F S4x128x128x18 .f32 := (fun l r => Host.dotGeneral dot_S4x256x128x128_S18x256_S4x128x128x18_1_1_023_0_n_n none l r) main_v1 main_v3
  let main_v5 : FVec F S4x256x128x128 .f32 := (extractStridedSlice S4x256x128x128 ![0, 0, 0, 1] · slices_S4x256x130x130_S4x256x128x128_0_0_0_1) main_v0
  let main_v6 : FVec F S18x256x1x1 .f32 := (extractStridedSlice S18x256x1x1 ![0, 0, 0, 1] · slices_S18x256x3x3_S18x256x1x1_0_0_0_1) main_arg1
  let main_v7 : FVec F S18x256 .f32 := shapeCast S18x256 main_v6 shapeCasts_S18x256x1x1_S18x256
  let main_v8 : FVec F S4x128x128x18 .f32 := (fun l r => Host.dotGeneral dot_S4x256x128x128_S18x256_S4x128x128x18_1_1_023_0_n_n none l r) main_v5 main_v7
  let main_v9 : FVec F S4x128x128x18 .f32 := addf main_v4 main_v8
  let main_v10 : FVec F S4x256x128x128 .f32 := (extractStridedSlice S4x256x128x128 ![0, 0, 0, 2] · slices_S4x256x130x130_S4x256x128x128_0_0_0_2) main_v0
  let main_v11 : FVec F S18x256x1x1 .f32 := (extractStridedSlice S18x256x1x1 ![0, 0, 0, 2] · slices_S18x256x3x3_S18x256x1x1_0_0_0_2) main_arg1
  let main_v12 : FVec F S18x256 .f32 := shapeCast S18x256 main_v11 shapeCasts_S18x256x1x1_S18x256
  let main_v13 : FVec F S4x128x128x18 .f32 := (fun l r => Host.dotGeneral dot_S4x256x128x128_S18x256_S4x128x128x18_1_1_023_0_n_n none l r) main_v10 main_v12
  let main_v14 : FVec F S4x128x128x18 .f32 := addf main_v9 main_v13
  let main_v15 : FVec F S4x256x128x128 .f32 := (extractStridedSlice S4x256x128x128 ![0, 0, 1, 0] · slices_S4x256x130x130_S4x256x128x128_0_0_1_0) main_v0
  let main_v16 : FVec F S18x256x1x1 .f32 := (extractStridedSlice S18x256x1x1 ![0, 0, 1, 0] · slices_S18x256x3x3_S18x256x1x1_0_0_1_0) main_arg1
  let main_v17 : FVec F S18x256 .f32 := shapeCast S18x256 main_v16 shapeCasts_S18x256x1x1_S18x256
  let main_v18 : FVec F S4x128x128x18 .f32 := (fun l r => Host.dotGeneral dot_S4x256x128x128_S18x256_S4x128x128x18_1_1_023_0_n_n none l r) main_v15 main_v17
  let main_v19 : FVec F S4x128x128x18 .f32 := addf main_v14 main_v18
  let main_v20 : FVec F S4x256x128x128 .f32 := (extractStridedSlice S4x256x128x128 ![0, 0, 1, 1] · slices_S4x256x130x130_S4x256x128x128_0_0_1_1) main_v0
  let main_v21 : FVec F S18x256x1x1 .f32 := (extractStridedSlice S18x256x1x1 ![0, 0, 1, 1] · slices_S18x256x3x3_S18x256x1x1_0_0_1_1) main_arg1
  let main_v22 : FVec F S18x256 .f32 := shapeCast S18x256 main_v21 shapeCasts_S18x256x1x1_S18x256
  fn_part1 (F := F) main_arg1 main_arg2 main_v0 main_v19 main_v20 main_v22
-- ==== Kernel.lean ====
abbrev S4x256x128x128 : Shape := ⟨4, ![4, 256, 128, 128]⟩
abbrev S18x256x3x3 : Shape := ⟨4, ![18, 256, 3, 3]⟩
abbrev S18 : Shape := ⟨1, ![18]⟩
abbrev S256x256x3x3 : Shape := ⟨4, ![256, 256, 3, 3]⟩
abbrev S4x128x128x256 : Shape := ⟨4, ![4, 128, 128, 256]⟩
abbrev S_ : Shape := ⟨0, ![]⟩
abbrev S4x136x136x256 : Shape := ⟨4, ![4, 136, 136, 256]⟩
abbrev S18x256x9 : Shape := ⟨3, ![18, 256, 9]⟩
abbrev S9x256x18 : Shape := ⟨3, ![9, 256, 18]⟩
abbrev S256x256x9 : Shape := ⟨3, ![256, 256, 9]⟩
abbrev S9x256x256 : Shape := ⟨3, ![9, 256, 256]⟩
abbrev S1x18 : Shape := ⟨2, ![1, 18]⟩
abbrev S1x24x136x256 : Shape := ⟨4, ![1, 24, 136, 256]⟩
abbrev S1x16x128x256 : Shape := ⟨4, ![1, 16, 128, 256]⟩
abbrev S16x128x256 : Shape := ⟨3, ![16, 128, 256]⟩
abbrev S2048x18 : Shape := ⟨2, ![2048, 18]⟩
abbrev S2048x256 : Shape := ⟨2, ![2048, 256]⟩
abbrev S1x256x18 : Shape := ⟨3, ![1, 256, 18]⟩
abbrev S256x18 : Shape := ⟨2, ![256, 18]⟩
abbrev S16x128x18 : Shape := ⟨3, ![16, 128, 18]⟩
abbrev S16x128x1 : Shape := ⟨3, ![16, 128, 1]⟩
abbrev S16x128 : Shape := ⟨2, ![16, 128]⟩
abbrev S1x256x256 : Shape := ⟨3, ![1, 256, 256]⟩
abbrev S256x256 : Shape := ⟨2, ![256, 256]⟩

abbrev nBuf : Space → Nat
  | .hbm => 15
  | .vmem => 8
  | .smem => 0
  | _ => 0

abbrev bufTy : (tb : Table) → Fin (tcTables nBuf tb) → BufTy
  | .hbm, ⟨0, _⟩ => ⟨S4x256x128x128, .f32⟩
  | .hbm, ⟨1, _⟩ => ⟨S18x256x3x3, .f32⟩
  | .hbm, ⟨2, _⟩ => ⟨S18, .f32⟩
  | .hbm, ⟨3, _⟩ => ⟨S256x256x3x3, .f32⟩
  | .hbm, ⟨4, _⟩ => ⟨S4x128x128x256, .f32⟩
  | .hbm, ⟨5, _⟩ => ⟨S_, .i32⟩
  | .hbm, ⟨6, _⟩ => ⟨S_, .f32⟩
  | .hbm, ⟨7, _⟩ => ⟨S4x136x136x256, .f32⟩
  | .hbm, ⟨8, _⟩ => ⟨S18x256x9, .f32⟩
  | .hbm, ⟨9, _⟩ => ⟨S9x256x18, .f32⟩
  | .hbm, ⟨10, _⟩ => ⟨S256x256x9, .f32⟩
  | .hbm, ⟨11, _⟩ => ⟨S9x256x256, .f32⟩
  | .hbm, ⟨12, _⟩ => ⟨S1x18, .f32⟩
  | .hbm, ⟨13, _⟩ => ⟨S4x128x128x256, .f32⟩
  | .hbm, ⟨14, _⟩ => ⟨S4x256x128x128, .f32⟩
  | .local _ .vmem, ⟨0, _⟩ => ⟨S1x24x136x256, .f32⟩
  | .local _ .vmem, ⟨1, _⟩ => ⟨S1x24x136x256, .f32⟩
  | .local _ .vmem, ⟨2, _⟩ => ⟨S9x256x18, .f32⟩
  | .local _ .vmem, ⟨3, _⟩ => ⟨S1x18, .f32⟩
  | .local _ .vmem, ⟨4, _⟩ => ⟨S9x256x256, .f32⟩
  | .local _ .vmem, ⟨5, _⟩ => ⟨S1x16x128x256, .f32⟩
  | .local _ .vmem, ⟨6, _⟩ => ⟨S1x16x128x256, .f32⟩
  | .local _ .vmem, ⟨7, _⟩ => ⟨S16x128x256, .f32⟩
  | _, _ => ⟨S4x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x24x136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S9x256x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S9x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x256x128x128 : Shape := ⟨4, ![4, 256, 128, 128]⟩
abbrev S18x256x3x3 : Shape := ⟨4, ![18, 256, 3, 3]⟩
abbrev S18 : Shape := ⟨1, ![18]⟩
abbrev S256x256x3x3 : Shape := ⟨4, ![256, 256, 3, 3]⟩
abbrev S_ : Shape := ⟨0, ![]⟩
abbrev S4x256x130x130 : Shape := ⟨4, ![4, 256, 130, 130]⟩
abbrev S18x256x1x1 : Shape := ⟨4, ![18, 256, 1, 1]⟩
abbrev S18x256 : Shape := ⟨2, ![18, 256]⟩
abbrev S4x128x128x18 : Shape := ⟨4, ![4, 128, 128, 18]⟩
abbrev S4x18x128x128 : Shape := ⟨4, ![4, 18, 128, 128]⟩
abbrev S4x9x2x128x128 : Shape := ⟨5, ![4, 9, 2, 128, 128]⟩
abbrev S4x9x1x128x128 : Shape := ⟨5, ![4, 9, 1, 128, 128]⟩
abbrev S4x9x128x128 : Shape := ⟨4, ![4, 9, 128, 128]⟩
abbrev S4x128x128x9 : Shape := ⟨4, ![4, 128, 128, 9]⟩
abbrev S3 : Shape := ⟨1, ![3]⟩
abbrev S3x3 : Shape := ⟨2, ![3, 3]⟩
abbrev S9 : Shape := ⟨1, ![9]⟩
abbrev S128 : Shape := ⟨1, ![128]⟩
abbrev S128x1 : Shape := ⟨2, ![128, 1]⟩
abbrev S1x9 : Shape := ⟨2, ![1, 9]⟩
abbrev S128x9 : Shape := ⟨2, ![128, 9]⟩
abbrev S1x128x1x9 : Shape := ⟨4, ![1, 128, 1, 9]⟩
abbrev S1x1x128x9 : Shape := ⟨4, ![1, 1, 128, 9]⟩
abbrev S4x128x128x256 : Shape := ⟨4, ![4, 128, 128, 256]⟩
abbrev S4x128x128x9x1 : Shape := ⟨5, ![4, 128, 128, 9, 1]⟩
abbrev S4x128x128x9x3 : Shape := ⟨5, ![4, 128, 128, 9, 3]⟩
abbrev S4x128x128x9x256 : Shape := ⟨5, ![4, 128, 128, 9, 256]⟩
abbrev S256x256x9 : Shape := ⟨3, ![256, 256, 9]⟩
abbrev S256x4x128x128 : Shape := ⟨4, ![256, 4, 128, 128]⟩

abbrev nBuf : Space → Nat
  | .hbm => 388
  | .vmem => 0
  | .smem => 0
  | _ => 0

abbrev hbmTy0_0 (i : Nat) : BufTy := match i % 128 with
  | 0 => ⟨S4x256x128x128, .f32⟩
  | 1 => ⟨S18x256x3x3, .f32⟩
  | 2 => ⟨S18, .f32⟩
  | 3 => ⟨S256x256x3x3, .f32⟩
  | 4 => ⟨S_, .f32⟩
  | 5 => ⟨S4x256x130x130, .f32⟩
  | 6 => ⟨S4x256x128x128, .f32⟩
  | 7 => ⟨S18x256x1x1, .f32⟩
  | 8 => ⟨S18x256, .f32⟩
  | 9 => ⟨S4x128x128x18, .f32⟩
  | 10 => ⟨S4x256x128x128, .f32⟩
  | 11 => ⟨S18x256x1x1, .f32⟩
  | 12 => ⟨S18x256, .f32⟩
  | 13 => ⟨S4x128x128x18, .f32⟩
  | 14 => ⟨S4x128x128x18, .f32⟩
  | 15 => ⟨S4x256x128x128, .f32⟩
  | 16 => ⟨S18x256x1x1, .f32⟩
  | 17 => ⟨S18x256, .f32⟩
  | 18 => ⟨S4x128x128x18, .f32⟩
  | 19 => ⟨S4x128x128x18, .f32⟩
  | 20 => ⟨S4x256x128x128, .f32⟩
  | 21 => ⟨S18x256x1x1, .f32⟩
  | 22 => ⟨S18x256, .f32⟩
  | 23 => ⟨S4x128x128x18, .f32⟩
  | 24 => ⟨S4x128x128x18, .f32⟩
  | 25 => ⟨S4x256x128x128, .f32⟩
  | 26 => ⟨S18x256x1x1, .f32⟩
  | 27 => ⟨S18x256, .f32⟩
  | 28 => ⟨S4x128x128x18, .f32⟩
  | 29 => ⟨S4x128x128x18, .f32⟩
  | 30 => ⟨S4x256x128x128, .f32⟩
  | 31 => ⟨S18x256x1x1, .f32⟩
  | 32 => ⟨S18x256, .f32⟩
  | 33 => ⟨S4x128x128x18, .f32⟩
  | 34 => ⟨S4x128x128x18, .f32⟩
  | 35 => ⟨S4x256x128x128, .f32⟩
  | 36 => ⟨S18x256x1x1, .f32⟩
  | 37 => ⟨S18x256, .f32⟩
  | 38 => ⟨S4x128x128x18, .f32⟩
  | 39 => ⟨S4x128x128x18, .f32⟩
  | 40 => ⟨S4x256x128x128, .f32⟩
  | 41 => ⟨S18x256x1x1, .f32⟩
  | 42 => ⟨S18x256, .f32⟩
  | 43 => ⟨S4x128x128x18, .f32⟩
  | 44 => ⟨S4x128x128x18, .f32⟩
  | 45 => ⟨S4x256x128x128, .f32⟩
  | 46 => ⟨S18x256x1x1, .f32⟩
  | 47 => ⟨S18x256, .f32⟩
  | 48 => ⟨S4x128x128x18, .f32⟩
  | 49 => ⟨S4x128x128x18, .f32⟩
  | 50 => ⟨S4x128x128x18, .f32⟩
  | 51 => ⟨S4x128x128x18, .f32⟩
  | 52 => ⟨S4x18x128x128, .f32⟩
  | 53 => ⟨S4x9x2x128x128, .f32⟩
  | 54 => ⟨S4x9x1x128x128, .f32⟩
  | 55 => ⟨S4x9x128x128, .f32⟩
  | 56 => ⟨S4x128x128x9, .f32⟩
  | 57 => ⟨S4x9x1x128x128, .f32⟩
  | 58 => ⟨S4x9x128x128, .f32⟩
  | 59 => ⟨S4x128x128x9, .f32⟩
  | 60 => ⟨S3, .i32⟩
  | 61 => ⟨S3, .f32⟩
  | 62 => ⟨S3x3, .f32⟩
  | 63 => ⟨S3x3, .f32⟩
  | 64 => ⟨S9, .f32⟩
  | 65 => ⟨S9, .f32⟩
  | 66 => ⟨S128, .i32⟩
  | 67 => ⟨S128, .f32⟩
  | 68 => ⟨S_, .f32⟩
  | 69 => ⟨S128, .f32⟩
  | 70 => ⟨S128, .f32⟩
  | 71 => ⟨S128, .i32⟩
  | 72 => ⟨S128, .f32⟩
  | 73 => ⟨S_, .f32⟩
  | 74 => ⟨S128, .f32⟩
  | 75 => ⟨S128, .f32⟩
  | 76 => ⟨S128x1, .f32⟩
  | 77 => ⟨S1x9, .f32⟩
  | 78 => ⟨S128x9, .f32⟩
  | 79 => ⟨S128x9, .f32⟩
  | 80 => ⟨S128x9, .f32⟩
  | 81 => ⟨S128x1, .f32⟩
  | 82 => ⟨S1x9, .f32⟩
  | 83 => ⟨S128x9, .f32⟩
  | 84 => ⟨S128x9, .f32⟩
  | 85 => ⟨S128x9, .f32⟩
  | 86 => ⟨S1x128x1x9, .f32⟩
  | 87 => ⟨S4x128x128x9, .f32⟩
  | 88 => ⟨S4x128x128x9, .f32⟩
  | 89 => ⟨S1x1x128x9, .f32⟩
  | 90 => ⟨S4x128x128x9, .f32⟩
  | 91 => ⟨S4x128x128x9, .f32⟩
  | 92 => ⟨S4x128x128x256, .f32⟩
  | 93 => ⟨S4x128x128x9, .i32⟩
  | 94 => ⟨S4x128x128x9, .f32⟩
  | 95 => ⟨S4x128x128x9, .f32⟩
  | 96 => ⟨S4x128x128x9, .i32⟩
  | 97 => ⟨S4x128x128x9, .i32⟩
  | 98 => ⟨S4x128x128x9, .f32⟩
  | 99 => ⟨S4x128x128x9, .f32⟩
  | 100 => ⟨S_, .f32⟩
  | 101 => ⟨S4x128x128x9, .f32⟩
  | 102 => ⟨S4x128x128x9, .f32⟩
  | 103 => ⟨S_, .f32⟩
  | 104 => ⟨S4x128x128x9, .f32⟩
  | 105 => ⟨S4x128x128x9, .f32⟩
  | 106 => ⟨S_, .i32⟩
  | 107 => ⟨S4x128x128x9, .i32⟩
  | 108 => ⟨S4x128x128x9, .i1⟩
  | 109 => ⟨S_, .i32⟩
  | 110 => ⟨S4x128x128x9, .i32⟩
  | 111 => ⟨S4x128x128x9, .i1⟩
  | 112 => ⟨S4x128x128x9, .i1⟩
  | 113 => ⟨S_, .i32⟩
  | 114 => ⟨S4x128x128x9, .i32⟩
  | 115 => ⟨S4x128x128x9, .i1⟩
  | 116 => ⟨S4x128x128x9, .i1⟩
  | 117 => ⟨S_, .i32⟩
  | 118 => ⟨S4x128x128x9, .i32⟩
  | 119 => ⟨S4x128x128x9, .i1⟩
  | 120 => ⟨S4x128x128x9, .i1⟩
  | 121 => ⟨S4x128x128x9, .i32⟩
  | 122 => ⟨S4x128x128x9, .f32⟩
  | 123 => ⟨S_, .i32⟩
  | 124 => ⟨S_, .i32⟩
  | 125 => ⟨S_, .i32⟩
  | 126 => ⟨S4x128x128x9, .i32⟩
  | 127 => ⟨S4x128x128x9, .i32⟩
  | _ => ⟨S4x256x128x128, .f32⟩

abbrev hbmTy0_1 (i : Nat) : BufTy := match i % 128 with
  | 0 => ⟨S_, .i32⟩
  | 1 => ⟨S4x128x128x9, .i32⟩
  | 2 => ⟨S4x128x128x9, .i32⟩
  | 3 => ⟨S_, .i32⟩
  | 4 => ⟨S_, .i32⟩
  | 5 => ⟨S_, .i32⟩
  | 6 => ⟨S4x128x128x9, .i32⟩
  | 7 => ⟨S4x128x128x9, .i32⟩
  | 8 => ⟨S_, .i32⟩
  | 9 => ⟨S4x128x128x9, .i32⟩
  | 10 => ⟨S4x128x128x9, .i32⟩
  | 11 => ⟨S_, .i32⟩
  | 12 => ⟨S4x128x128x9, .i32⟩
  | 13 => ⟨S4x128x128x9, .i1⟩
  | 14 => ⟨S_, .i32⟩
  | 15 => ⟨S4x128x128x9, .i32⟩
  | 16 => ⟨S4x128x128x9, .i32⟩
  | 17 => ⟨S4x128x128x9, .i32⟩
  | 18 => ⟨S_, .i32⟩
  | 19 => ⟨S4x128x128x9, .i32⟩
  | 20 => ⟨S4x128x128x9, .i1⟩
  | 21 => ⟨S_, .i32⟩
  | 22 => ⟨S4x128x128x9, .i32⟩
  | 23 => ⟨S4x128x128x9, .i32⟩
  | 24 => ⟨S4x128x128x9, .i32⟩
  | 25 => ⟨S_, .i32⟩
  | 26 => ⟨S4x128x128x9, .i32⟩
  | 27 => ⟨S4x128x128x9, .i1⟩
  | 28 => ⟨S_, .i32⟩
  | 29 => ⟨S4x128x128x9, .i32⟩
  | 30 => ⟨S4x128x128x9, .i32⟩
  | 31 => ⟨S4x128x128x9, .i32⟩
  | 32 => ⟨S4x128x128x9x1, .i32⟩
  | 33 => ⟨S4x128x128x9x1, .i32⟩
  | 34 => ⟨S4x128x128x9x1, .i32⟩
  | 35 => ⟨S4x128x128x9x3, .i32⟩
  | 36 => ⟨S4x128x128x9x256, .f32⟩
  | 37 => ⟨S4x128x128x9x1, .f32⟩
  | 38 => ⟨S4x128x128x9x256, .f32⟩
  | 39 => ⟨S4x128x128x9x256, .f32⟩
  | 40 => ⟨S4x128x128x9, .f32⟩
  | 41 => ⟨S4x128x128x9x1, .f32⟩
  | 42 => ⟨S4x128x128x9x256, .f32⟩
  | 43 => ⟨S4x128x128x9x256, .f32⟩
  | 44 => ⟨S_, .i32⟩
  | 45 => ⟨S4x128x128x9, .i32⟩
  | 46 => ⟨S4x128x128x9, .i32⟩
  | 47 => ⟨S_, .i32⟩
  | 48 => ⟨S4x128x128x9, .i32⟩
  | 49 => ⟨S4x128x128x9, .i1⟩
  | 50 => ⟨S_, .i32⟩
  | 51 => ⟨S4x128x128x9, .i32⟩
  | 52 => ⟨S4x128x128x9, .i1⟩
  | 53 => ⟨S4x128x128x9, .i1⟩
  | 54 => ⟨S_, .i32⟩
  | 55 => ⟨S4x128x128x9, .i32⟩
  | 56 => ⟨S4x128x128x9, .i1⟩
  | 57 => ⟨S4x128x128x9, .i1⟩
  | 58 => ⟨S_, .i32⟩
  | 59 => ⟨S4x128x128x9, .i32⟩
  | 60 => ⟨S4x128x128x9, .i1⟩
  | 61 => ⟨S4x128x128x9, .i1⟩
  | 62 => ⟨S4x128x128x9, .i32⟩
  | 63 => ⟨S4x128x128x9, .f32⟩
  | 64 => ⟨S_, .i32⟩
  | 65 => ⟨S_, .i32⟩
  | 66 => ⟨S_, .i32⟩
  | 67 => ⟨S4x128x128x9, .i32⟩
  | 68 => ⟨S4x128x128x9, .i32⟩
  | 69 => ⟨S_, .i32⟩
  | 70 => ⟨S4x128x128x9, .i32⟩
  | 71 => ⟨S4x128x128x9, .i32⟩
  | 72 => ⟨S_, .i32⟩
  | 73 => ⟨S_, .i32⟩
  | 74 => ⟨S_, .i32⟩
  | 75 => ⟨S4x128x128x9, .i32⟩
  | 76 => ⟨S4x128x128x9, .i32⟩
  | 77 => ⟨S_, .i32⟩
  | 78 => ⟨S4x128x128x9, .i32⟩
  | 79 => ⟨S4x128x128x9, .i32⟩
  | 80 => ⟨S_, .i32⟩
  | 81 => ⟨S4x128x128x9, .i32⟩
  | 82 => ⟨S4x128x128x9, .i1⟩
  | 83 => ⟨S_, .i32⟩
  | 84 => ⟨S4x128x128x9, .i32⟩
  | 85 => ⟨S4x128x128x9, .i32⟩
  | 86 => ⟨S4x128x128x9, .i32⟩
  | 87 => ⟨S_, .i32⟩
  | 88 => ⟨S4x128x128x9, .i32⟩
  | 89 => ⟨S4x128x128x9, .i1⟩
  | 90 => ⟨S_, .i32⟩
  | 91 => ⟨S4x128x128x9, .i32⟩
  | 92 => ⟨S4x128x128x9, .i32⟩
  | 93 => ⟨S4x128x128x9, .i32⟩
  | 94 => ⟨S_, .i32⟩
  | 95 => ⟨S4x128x128x9, .i32⟩
  | 96 => ⟨S4x128x128x9, .i1⟩
  | 97 => ⟨S_, .i32⟩
  | 98 => ⟨S4x128x128x9, .i32⟩
  | 99 => ⟨S4x128x128x9, .i32⟩
  | 100 => ⟨S4x128x128x9, .i32⟩
  | 101 => ⟨S4x128x128x9x1, .i32⟩
  | 102 => ⟨S4x128x128x9x1, .i32⟩
  | 103 => ⟨S4x128x128x9x1, .i32⟩
  | 104 => ⟨S4x128x128x9x3, .i32⟩
  | 105 => ⟨S4x128x128x9x256, .f32⟩
  | 106 => ⟨S4x128x128x9x1, .f32⟩
  | 107 => ⟨S4x128x128x9x256, .f32⟩
  | 108 => ⟨S4x128x128x9x256, .f32⟩
  | 109 => ⟨S4x128x128x9, .f32⟩
  | 110 => ⟨S4x128x128x9x1, .f32⟩
  | 111 => ⟨S4x128x128x9x256, .f32⟩
  | 112 => ⟨S4x128x128x9x256, .f32⟩
  | 113 => ⟨S4x128x128x9x256, .f32⟩
  | 114 => ⟨S_, .i32⟩
  | 115 => ⟨S4x128x128x9, .i32⟩
  | 116 => ⟨S4x128x128x9, .i32⟩
  | 117 => ⟨S_, .i32⟩
  | 118 => ⟨S4x128x128x9, .i32⟩
  | 119 => ⟨S4x128x128x9, .i1⟩
  | 120 => ⟨S_, .i32⟩
  | 121 => ⟨S4x128x128x9, .i32⟩
  | 122 => ⟨S4x128x128x9, .i1⟩
  | 123 => ⟨S4x128x128x9, .i1⟩
  | 124 => ⟨S_, .i32⟩
  | 125 => ⟨S4x128x128x9, .i32⟩
  | 126 => ⟨S4x128x128x9, .i1⟩
  | 127 => ⟨S4x128x128x9, .i1⟩
  | _ => ⟨S4x256x128x128, .f32⟩

abbrev hbmTy0_2 (i : Nat) : BufTy := match i % 128 with
  | 0 => ⟨S_, .i32⟩
  | 1 => ⟨S4x128x128x9, .i32⟩
  | 2 => ⟨S4x128x128x9, .i1⟩
  | 3 => ⟨S4x128x128x9, .i1⟩
  | 4 => ⟨S4x128x128x9, .i32⟩
  | 5 => ⟨S4x128x128x9, .f32⟩
  | 6 => ⟨S_, .i32⟩
  | 7 => ⟨S_, .i32⟩
  | 8 => ⟨S_, .i32⟩
  | 9 => ⟨S4x128x128x9, .i32⟩
  | 10 => ⟨S4x128x128x9, .i32⟩
  | 11 => ⟨S_, .i32⟩
  | 12 => ⟨S4x128x128x9, .i32⟩
  | 13 => ⟨S4x128x128x9, .i32⟩
  | 14 => ⟨S_, .i32⟩
  | 15 => ⟨S_, .i32⟩
  | 16 => ⟨S_, .i32⟩
  | 17 => ⟨S4x128x128x9, .i32⟩
  | 18 => ⟨S4x128x128x9, .i32⟩
  | 19 => ⟨S_, .i32⟩
  | 20 => ⟨S4x128x128x9, .i32⟩
  | 21 => ⟨S4x128x128x9, .i32⟩
  | 22 => ⟨S_, .i32⟩
  | 23 => ⟨S4x128x128x9, .i32⟩
  | 24 => ⟨S4x128x128x9, .i1⟩
  | 25 => ⟨S_, .i32⟩
  | 26 => ⟨S4x128x128x9, .i32⟩
  | 27 => ⟨S4x128x128x9, .i32⟩
  | 28 => ⟨S4x128x128x9, .i32⟩
  | 29 => ⟨S_, .i32⟩
  | 30 => ⟨S4x128x128x9, .i32⟩
  | 31 => ⟨S4x128x128x9, .i1⟩
  | 32 => ⟨S_, .i32⟩
  | 33 => ⟨S4x128x128x9, .i32⟩
  | 34 => ⟨S4x128x128x9, .i32⟩
  | 35 => ⟨S4x128x128x9, .i32⟩
  | 36 => ⟨S_, .i32⟩
  | 37 => ⟨S4x128x128x9, .i32⟩
  | 38 => ⟨S4x128x128x9, .i1⟩
  | 39 => ⟨S_, .i32⟩
  | 40 => ⟨S4x128x128x9, .i32⟩
  | 41 => ⟨S4x128x128x9, .i32⟩
  | 42 => ⟨S4x128x128x9, .i32⟩
  | 43 => ⟨S4x128x128x9x1, .i32⟩
  | 44 => ⟨S4x128x128x9x1, .i32⟩
  | 45 => ⟨S4x128x128x9x1, .i32⟩
  | 46 => ⟨S4x128x128x9x3, .i32⟩
  | 47 => ⟨S4x128x128x9x256, .f32⟩
  | 48 => ⟨S4x128x128x9x1, .f32⟩
  | 49 => ⟨S4x128x128x9x256, .f32⟩
  | 50 => ⟨S4x128x128x9x256, .f32⟩
  | 51 => ⟨S4x128x128x9, .f32⟩
  | 52 => ⟨S4x128x128x9x1, .f32⟩
  | 53 => ⟨S4x128x128x9x256, .f32⟩
  | 54 => ⟨S4x128x128x9x256, .f32⟩
  | 55 => ⟨S4x128x128x9x256, .f32⟩
  | 56 => ⟨S_, .i32⟩
  | 57 => ⟨S4x128x128x9, .i32⟩
  | 58 => ⟨S4x128x128x9, .i32⟩
  | 59 => ⟨S_, .i32⟩
  | 60 => ⟨S4x128x128x9, .i32⟩
  | 61 => ⟨S4x128x128x9, .i32⟩
  | 62 => ⟨S_, .i32⟩
  | 63 => ⟨S4x128x128x9, .i32⟩
  | 64 => ⟨S4x128x128x9, .i1⟩
  | 65 => ⟨S_, .i32⟩
  | 66 => ⟨S4x128x128x9, .i32⟩
  | 67 => ⟨S4x128x128x9, .i1⟩
  | 68 => ⟨S4x128x128x9, .i1⟩
  | 69 => ⟨S_, .i32⟩
  | 70 => ⟨S4x128x128x9, .i32⟩
  | 71 => ⟨S4x128x128x9, .i1⟩
  | 72 => ⟨S4x128x128x9, .i1⟩
  | 73 => ⟨S_, .i32⟩
  | 74 => ⟨S4x128x128x9, .i32⟩
  | 75 => ⟨S4x128x128x9, .i1⟩
  | 76 => ⟨S4x128x128x9, .i1⟩
  | 77 => ⟨S4x128x128x9, .i32⟩
  | 78 => ⟨S4x128x128x9, .f32⟩
  | 79 => ⟨S_, .i32⟩
  | 80 => ⟨S_, .i32⟩
  | 81 => ⟨S_, .i32⟩
  | 82 => ⟨S4x128x128x9, .i32⟩
  | 83 => ⟨S4x128x128x9, .i32⟩
  | 84 => ⟨S_, .i32⟩
  | 85 => ⟨S4x128x128x9, .i32⟩
  | 86 => ⟨S4x128x128x9, .i32⟩
  | 87 => ⟨S_, .i32⟩
  | 88 => ⟨S_, .i32⟩
  | 89 => ⟨S_, .i32⟩
  | 90 => ⟨S4x128x128x9, .i32⟩
  | 91 => ⟨S4x128x128x9, .i32⟩
  | 92 => ⟨S_, .i32⟩
  | 93 => ⟨S4x128x128x9, .i32⟩
  | 94 => ⟨S4x128x128x9, .i32⟩
  | 95 => ⟨S_, .i32⟩
  | 96 => ⟨S4x128x128x9, .i32⟩
  | 97 => ⟨S4x128x128x9, .i1⟩
  | 98 => ⟨S_, .i32⟩
  | 99 => ⟨S4x128x128x9, .i32⟩
  | 100 => ⟨S4x128x128x9, .i32⟩
  | 101 => ⟨S4x128x128x9, .i32⟩
  | 102 => ⟨S_, .i32⟩
  | 103 => ⟨S4x128x128x9, .i32⟩
  | 104 => ⟨S4x128x128x9, .i1⟩
  | 105 => ⟨S_, .i32⟩
  | 106 => ⟨S4x128x128x9, .i32⟩
  | 107 => ⟨S4x128x128x9, .i32⟩
  | 108 => ⟨S4x128x128x9, .i32⟩
  | 109 => ⟨S_, .i32⟩
  | 110 => ⟨S4x128x128x9, .i32⟩
  | 111 => ⟨S4x128x128x9, .i1⟩
  | 112 => ⟨S_, .i32⟩
  | 113 => ⟨S4x128x128x9, .i32⟩
  | 114 => ⟨S4x128x128x9, .i32⟩
  | 115 => ⟨S4x128x128x9, .i32⟩
  | 116 => ⟨S4x128x128x9x1, .i32⟩
  | 117 => ⟨S4x128x128x9x1, .i32⟩
  | 118 => ⟨S4x128x128x9x1, .i32⟩
  | 119 => ⟨S4x128x128x9x3, .i32⟩
  | 120 => ⟨S4x128x128x9x256, .f32⟩
  | 121 => ⟨S4x128x128x9x1, .f32⟩
  | 122 => ⟨S4x128x128x9x256, .f32⟩
  | 123 => ⟨S4x128x128x9x256, .f32⟩
  | 124 => ⟨S4x128x128x9, .f32⟩
  | 125 => ⟨S4x128x128x9x1, .f32⟩
  | 126 => ⟨S4x128x128x9x256, .f32⟩
  | 127 => ⟨S4x128x128x9x256, .f32⟩
  | _ => ⟨S4x256x128x128, .f32⟩

abbrev hbmTy0_3 (i : Nat) : BufTy := match i % 128 with
  | 0 => ⟨S4x128x128x9x256, .f32⟩
  | 1 => ⟨S256x256x9, .f32⟩
  | 2 => ⟨S256x4x128x128, .f32⟩
  | 3 => ⟨S4x256x128x128, .f32⟩
  | _ => ⟨S4x256x128x128, .f32⟩

abbrev hbmTy (i : Nat) : BufTy := match i / 128 with
  | 0 => hbmTy0_0 i
  | 1 => hbmTy0_1 i
  | 2 => hbmTy0_2 i
  | 3 => hbmTy0_3 i
  | _ => ⟨S4x256x128x128, .f32⟩

abbrev bufTy : (tb : Table) → Fin (tcTables nBuf tb) → BufTy
  | .hbm, ⟨i, _⟩ => hbmTy i
  | _, _ => ⟨S4x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_cst_0 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_cst_1 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_cst_2 : Ref sig .tc := ⟨.hbm, 100, rfl⟩
abbrev main_v93 : Ref sig .tc := ⟨.hbm, 101, rfl⟩
abbrev main_v94 : Ref sig .tc := ⟨.hbm, 102, rfl⟩
abbrev main_cst_3 : Ref sig .tc := ⟨.hbm, 103, rfl⟩
abbrev main_v95 : Ref sig .tc := ⟨.hbm, 104, rfl⟩
abbrev main_v96 : Ref sig .tc := ⟨.hbm, 105, rfl⟩
abbrev main_c : Ref sig .tc := ⟨.hbm, 106, rfl⟩
abbrev main_v97 : Ref sig .tc := ⟨.hbm, 107, rfl⟩
abbrev main_v98 : Ref sig .tc := ⟨.hbm, 108, rfl⟩
abbrev main_c_4 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_c_5 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_c_6 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_c_7 : Ref sig .tc := ⟨.hbm, 123, rfl⟩
abbrev main_c_8 : Ref sig .tc := ⟨.hbm, 124, rfl⟩
abbrev main_call0_v0 : Ref sig .tc := ⟨.hbm, 125, rfl⟩
abbrev main_call0_v1 : Ref sig .tc := ⟨.hbm, 126, rfl⟩
abbrev main_call0_v2 : Ref sig .tc := ⟨.hbm, 127, rfl⟩
abbrev main_call0_v3 : Ref sig .tc := ⟨.hbm, 128, rfl⟩
abbrev main_call0_v4 : Ref sig .tc := ⟨.hbm, 129, rfl⟩
abbrev main_v110 : Ref sig .tc := ⟨.hbm, 130, rfl⟩
abbrev main_c_9 : Ref sig .tc := ⟨.hbm, 131, rfl⟩
abbrev main_c_10 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_call1_v3 : Ref sig .tc := ⟨.hbm, 136, rfl⟩
abbrev main_call1_v4 : Ref sig .tc := ⟨.hbm, 137, rfl⟩
abbrev main_v111 : Ref sig .tc := ⟨.hbm, 138, rfl⟩
abbrev main_c_11 : Ref sig .tc := ⟨.hbm, 139, rfl⟩
abbrev main_v112 : Ref sig .tc := ⟨.hbm, 140, rfl⟩
abbrev main_v113 : Ref sig .tc := ⟨.hbm, 141, rfl⟩
abbrev main_c_12 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_c_13 : Ref sig .tc := ⟨.hbm, 146, rfl⟩
abbrev main_v117 : Ref sig .tc := ⟨.hbm, 147, rfl⟩
abbrev main_v118 : Ref sig .tc := ⟨.hbm, 148, rfl⟩
abbrev main_c_14 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_c_15 : Ref sig .tc := ⟨.hbm, 153, rfl⟩
abbrev main_v122 : Ref sig .tc := ⟨.hbm, 154, rfl⟩
abbrev main_v123 : Ref sig .tc := ⟨.hbm, 155, rfl⟩
abbrev main_c_16 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_c_17 : Ref sig .tc := ⟨.hbm, 172, rfl⟩
abbrev main_v139 : Ref sig .tc := ⟨.hbm, 173, rfl⟩
abbrev main_v140 : Ref sig .tc := ⟨.hbm, 174, rfl⟩
abbrev main_c_18 : Ref sig .tc := ⟨.hbm, 175, rfl⟩
abbrev main_v141 : Ref sig .tc := ⟨.hbm, 176, rfl⟩
abbrev main_v142 : Ref sig .tc := ⟨.hbm, 177, rfl⟩
abbrev main_c_19 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_c_20 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_c_21 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_c_22 : Ref sig .tc := ⟨.hbm, 192, rfl⟩
abbrev main_c_23 : Ref sig .tc := ⟨.hbm, 193, rfl⟩
abbrev main_call2_v0 : Ref sig .tc := ⟨.hbm, 194, rfl⟩
abbrev main_call2_v1 : Ref sig .tc := ⟨.hbm, 195, rfl⟩
abbrev main_call2_v2 : Ref sig .tc := ⟨.hbm, 196, rfl⟩
abbrev main_call2_v3 : Ref sig .tc := ⟨.hbm, 197, rfl⟩
abbrev main_call2_v4 : Ref sig .tc := ⟨.hbm, 198, rfl⟩
abbrev main_v154 : Ref sig .tc := ⟨.hbm, 199, rfl⟩
abbrev main_c_24 : Ref sig .tc := ⟨.hbm, 200, rfl⟩
abbrev main_c_25 : Ref sig .tc := ⟨.hbm, 201, rfl⟩
abbrev main_call3_v0 : Ref sig .tc := ⟨.hbm, 202, rfl⟩
abbrev main_call3_v1 : Ref sig .tc := ⟨.hbm, 203, rfl⟩
abbrev main_call3_v2 : Ref sig .tc := ⟨.hbm, 204, rfl⟩
abbrev main_call3_v3 : Ref sig .tc := ⟨.hbm, 205, rfl⟩
abbrev main_call3_v4 : Ref sig .tc := ⟨.hbm, 206, rfl⟩
abbrev main_v155 : Ref sig .tc := ⟨.hbm, 207, rfl⟩
abbrev main_c_26 : Ref sig .tc := ⟨.hbm, 208, rfl⟩
abbrev main_v156 : Ref sig .tc := ⟨.hbm, 209, rfl⟩
abbrev main_v157 : Ref sig .tc := ⟨.hbm, 210, rfl⟩
abbrev main_c_27 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_c_28 : Ref sig .tc := ⟨.hbm, 215, rfl⟩
abbrev main_v161 : Ref sig .tc := ⟨.hbm, 216, rfl⟩
abbrev main_v162 : Ref sig .tc := ⟨.hbm, 217, rfl⟩
abbrev main_c_29 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_c_30 : Ref sig .tc := ⟨.hbm, 222, rfl⟩
abbrev main_v166 : Ref sig .tc := ⟨.hbm, 223, rfl⟩
abbrev main_v167 : Ref sig .tc := ⟨.hbm, 224, rfl⟩
abbrev main_c_31 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_c_32 : Ref sig .tc := ⟨.hbm, 242, rfl⟩
abbrev main_v184 : Ref sig .tc := ⟨.hbm, 243, rfl⟩
abbrev main_v185 : Ref sig .tc := ⟨.hbm, 244, rfl⟩
abbrev main_c_33 : Ref sig .tc := ⟨.hbm, 245, rfl⟩
abbrev main_v186 : Ref sig .tc := ⟨.hbm, 246, rfl⟩
abbrev main_v187 : Ref sig .tc := ⟨.hbm, 247, rfl⟩
abbrev main_c_34 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_c_35 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_c_36 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_c_37 : Ref sig .tc := ⟨.hbm, 262, rfl⟩
abbrev main_c_38 : Ref sig .tc := ⟨.hbm, 263, rfl⟩
abbrev main_call4_v0 : Ref sig .tc := ⟨.hbm, 264, rfl⟩
abbrev main_call4_v1 : Ref sig .tc := ⟨.hbm, 265, rfl⟩
abbrev main_call4_v2 : Ref sig .tc := ⟨.hbm, 266, rfl⟩
abbrev main_call4_v3 : Ref sig .tc := ⟨.hbm, 267, rfl⟩
abbrev main_call4_v4 : Ref sig .tc := ⟨.hbm, 268, rfl⟩
abbrev main_v199 : Ref sig .tc := ⟨.hbm, 269, rfl⟩
abbrev main_c_39 : Ref sig .tc := ⟨.hbm, 270, rfl⟩
abbrev main_c_40 : Ref sig .tc := ⟨.hbm, 271, rfl⟩
abbrev main_call5_v0 : Ref sig .tc := ⟨.hbm, 272, rfl⟩
abbrev main_call5_v1 : Ref sig .tc := ⟨.hbm, 273, rfl⟩
abbrev main_call5_v2 : Ref sig .tc := ⟨.hbm, 274, rfl⟩
abbrev main_call5_v3 : Ref sig .tc := ⟨.hbm, 275, rfl⟩
abbrev main_call5_v4 : Ref sig .tc := ⟨.hbm, 276, rfl⟩
abbrev main_v200 : Ref sig .tc := ⟨.hbm, 277, rfl⟩
abbrev main_c_41 : Ref sig .tc := ⟨.hbm, 278, rfl⟩
abbrev main_v201 : Ref sig .tc := ⟨.hbm, 279, rfl⟩
abbrev main_v202 : Ref sig .tc := ⟨.hbm, 280, rfl⟩
abbrev main_c_42 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_c_43 : Ref sig .tc := ⟨.hbm, 285, rfl⟩
abbrev main_v206 : Ref sig .tc := ⟨.hbm, 286, rfl⟩
abbrev main_v207 : Ref sig .tc := ⟨.hbm, 287, rfl⟩
abbrev main_c_44 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_c_45 : Ref sig .tc := ⟨.hbm, 292, rfl⟩
abbrev main_v211 : Ref sig .tc := ⟨.hbm, 293, rfl⟩
abbrev main_v212 : Ref sig .tc := ⟨.hbm, 294, rfl⟩
abbrev main_c_46 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_c_47 : Ref sig .tc := ⟨.hbm, 312, rfl⟩
abbrev main_v229 : Ref sig .tc := ⟨.hbm, 313, rfl⟩
abbrev main_v230 : Ref sig .tc := ⟨.hbm, 314, rfl⟩
abbrev main_c_48 : Ref sig .tc := ⟨.hbm, 315, rfl⟩
abbrev main_v231 : Ref sig .tc := ⟨.hbm, 316, rfl⟩
abbrev main_v232 : Ref sig .tc := ⟨.hbm, 317, rfl⟩
abbrev main_c_49 : Ref sig .tc := ⟨.hbm, 318, rfl⟩
abbrev main_v233 : Ref sig .tc := ⟨.hbm, 319, rfl⟩
abbrev main_v234 : Ref sig .tc := ⟨.hbm, 320, rfl⟩
abbrev main_c_50 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_c_51 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩
abbrev main_c_52 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_c_53 : Ref sig .tc := ⟨.hbm, 335, rfl⟩
abbrev main_c_54 : Ref sig .tc := ⟨.hbm, 336, rfl⟩
abbrev main_call6_v0 : Ref sig .tc := ⟨.hbm, 337, rfl⟩
abbrev main_call6_v1 : Ref sig .tc := ⟨.hbm, 338, rfl⟩
abbrev main_call6_v2 : Ref sig .tc := ⟨.hbm, 339, rfl⟩
abbrev main_call6_v3 : Ref sig .tc := ⟨.hbm, 340, rfl⟩
abbrev main_call6_v4 : Ref sig .tc := ⟨.hbm, 341, rfl⟩
abbrev main_v246 : Ref sig .tc := ⟨.hbm, 342, rfl⟩
abbrev main_c_55 : Ref sig .tc := ⟨.hbm, 343, rfl⟩
abbrev main_c_56 : Ref sig .tc := ⟨.hbm, 344, rfl⟩
abbrev main_call7_v0 : Ref sig .tc := ⟨.hbm, 345, rfl⟩
abbrev main_call7_v1 : Ref sig .tc := ⟨.hbm, 346, rfl⟩
abbrev main_call7_v2 : Ref sig .tc := ⟨.hbm, 347, rfl⟩
abbrev main_call7_v3 : Ref sig .tc := ⟨.hbm, 348, rfl⟩
abbrev main_call7_v4 : Ref sig .tc := ⟨.hbm, 349, rfl⟩
abbrev main_v247 : Ref sig .tc := ⟨.hbm, 350, rfl⟩
abbrev main_c_57 : Ref sig .tc := ⟨.hbm, 351, rfl⟩
abbrev main_v248 : Ref sig .tc := ⟨.hbm, 352, rfl⟩
abbrev main_v249 : Ref sig .tc := ⟨.hbm, 353, rfl⟩
abbrev main_c_58 : Ref sig .tc := ⟨.hbm, 354, rfl⟩
abbrev main_v250 : Ref sig .tc := ⟨.hbm, 355, rfl⟩
abbrev main_v251 : Ref sig .tc := ⟨.hbm, 356, rfl⟩
abbrev main_v252 : Ref sig .tc := ⟨.hbm, 357, rfl⟩
abbrev main_c_59 : Ref sig .tc := ⟨.hbm, 358, rfl⟩
abbrev main_v253 : Ref sig .tc := ⟨.hbm, 359, rfl⟩
abbrev main_v254 : Ref sig .tc := ⟨.hbm, 360, rfl⟩
abbrev main_c_60 : Ref sig .tc := ⟨.hbm, 361, rfl⟩
abbrev main_v255 : Ref sig .tc := ⟨.hbm, 362, rfl⟩
abbrev main_v256 : Ref sig .tc := ⟨.hbm, 363, rfl⟩
abbrev main_v257 : Ref sig .tc := ⟨.hbm, 364, rfl⟩
abbrev main_c_61 : Ref sig .tc := ⟨.hbm, 365, rfl⟩
abbrev main_v258 : Ref sig .tc := ⟨.hbm, 366, rfl⟩
abbrev main_v259 : Ref sig .tc := ⟨.hbm, 367, rfl⟩
abbrev main_c_62 : Ref sig .tc := ⟨.hbm, 368, rfl⟩
abbrev main_v260 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_v264 : Ref sig .tc := ⟨.hbm, 373, rfl⟩
abbrev main_v265 : Ref sig .tc := ⟨.hbm, 374, rfl⟩
abbrev main_v266 : Ref sig .tc := ⟨.hbm, 375, rfl⟩
abbrev main_v267 : Ref sig .tc := ⟨.hbm, 376, rfl⟩
abbrev main_v268 : Ref sig .tc := ⟨.hbm, 377, rfl⟩
abbrev main_v269 : Ref sig .tc := ⟨.hbm, 378, rfl⟩
abbrev main_v270 : Ref sig .tc := ⟨.hbm, 379, rfl⟩
abbrev main_v271 : Ref sig .tc := ⟨.hbm, 380, rfl⟩
abbrev main_v272 : Ref sig .tc := ⟨.hbm, 381, rfl⟩
abbrev main_v273 : Ref sig .tc := ⟨.hbm, 382, rfl⟩
abbrev main_v274 : Ref sig .tc := ⟨.hbm, 383, rfl⟩
abbrev main_v275 : Ref sig .tc := ⟨.hbm, 384, rfl⟩
abbrev main_v276 : Ref sig .tc := ⟨.hbm, 385, rfl⟩
abbrev main_v277 : Ref sig .tc := ⟨.hbm, 386, rfl⟩
abbrev main_v278 : Ref sig .tc := ⟨.hbm, 387, rfl⟩

abbrev nD : Nat := 1
abbrev τ : Topo := Topo.v7x

variable {F : FTy → Type} [FloatOps F]
-- ==== Proof.Body.lean ====
/- What the kernel body leaves in its output block, as nine passes over the taps: each pass fills the scratch with
   thirty-six weighted windows, multiplies it by the tap's matrix and adds the product to the block.  The run's own list of
   stores is that recursion (`run_pieces`); read back, it is a sum over the taps (`block_eq`). -/
module

public import proofs.«01_k».proof.Proof.Gen.KernelIdeal.Frame
public import Idealize.ShloMosaic.Lib.WholeRead

@[expose] public section

set_option maxRecDepth 65536

noncomputable section

namespace Cert.KernelIdeal.Body

open Idealize.ShloMosaic Idealize.ShloMosaic.TcCoe Idealize.ShloMosaic.Tactic
open Cert.KernelIdeal Cert.KernelIdeal.Gen

variable {F : FTy → Type} [FloatOps F]

/-! ## The vocabulary -/

/-- The taps `(row, column)` of the filter, in the order the body visits them. -/
def taps : List (Fin 3 × Fin 3) := [(0, 0), (0, 1), (0, 2), (1, 0), (1, 1), (1, 2), (2, 0), (2, 1), (2, 2)]

/-- The thirty-five lattice steps `(row, column)` after the first, in the order the body visits them. -/
def steps : List (Fin 6 × Fin 6) :=
  [(0, 1), (0, 2), (0, 3), (0, 4), (0, 5),
   (1, 0), (1, 1), (1, 2), (1, 3), (1, 4), (1, 5), (2, 0), (2, 1), (2, 2), (2, 3), (2, 4), (2, 5),
   (3, 0), (3, 1), (3, 2), (3, 3), (3, 4), (3, 5), (4, 0), (4, 1), (4, 2), (4, 3), (4, 4), (4, 5),
   (5, 0), (5, 1), (5, 2), (5, 3), (5, 4), (5, 5)]

/-- The lattice step's displacement, minus two to three, as the word the body writes. -/
def stepWord : Fin 6 → BitVec 32 := ![0xC0000000#32, 0xBF800000#32, 0x00000000#32, 0x3F800000#32, 0x40000000#32, 0x40400000#32]

/-- A tap's number. -/
def tapNo (p : Fin 3 × Fin 3) : ℕ := 3 * p.1.val + p.2.val

/-- There are nine taps. -/
theorem tapNo_lt (p : Fin 3 × Fin 3) : tapNo p < 9 := by unfold tapNo; omega

/-- Plane `q` of the offsets is a slice of them. -/
theorem slices_coord (q : ℕ) (h : q < 18) : S16x128x18.Slices ![0, 0, q] S16x128x1 :=
  ⟨rfl, fun a => by
    fin_cases a
    · exact le_refl 16
    · exact le_refl 128
    · exact h⟩

/-- A window with corner `(r, s)` lies in the image block. -/
theorem inb_win (r s : ℕ) (hr : r < 9) (hs : s < 9) :
    ∀ a, (![0, r, s, 0] : Fin 4 → ℕ) a + S1x16x128x256.size a ≤ S1x24x136x256.size a := fun a => by
  fin_cases a
  · exact le_refl 1
  · show r + 16 ≤ 24; omega
  · show s + 128 ≤ 136; omega
  · exact le_refl 256

/-- A tap's slice lies in the offset weights. -/
theorem inb_wo (k : ℕ) (hk : k < 9) : ∀ a, (![k, 0, 0] : Fin 3 → ℕ) a + S1x256x18.size a ≤ S9x256x18.size a := fun a => by
  fin_cases a
  · show k + 1 ≤ 9; omega
  · exact le_refl 256
  · exact le_refl 18

/-- A tap's slice lies in the filter. -/
theorem inb_wc (k : ℕ) (hk : k < 9) : ∀ a, (![k, 0, 0] : Fin 3 → ℕ) a + S1x256x256.size a ≤ S9x256x256.size a := fun a => by
  fin_cases a
  · show k + 1 ≤ 9; omega
  · exact le_refl 256
  · exact le_refl 256

/-- A window of the image block with its two leading axes merged: the left operand of a product. -/
def flat (x : Vec F S1x16x128x256 .f32) : FVec F S2048x256 .f32 :=
  shapeCast S2048x256 (shapeCast S16x128x256 x shapeCasts_S1x16x128x256_S16x128x256) shapeCasts_S16x128x256_S2048x256

/-- One tap's product of the offset convolution. -/
def offTerm (x : Vec F S1x16x128x256 .f32) (w : Vec F S1x256x18 .f32) : FVec F S2048x18 .f32 :=
  matmul dot_S2048x256_S256x18_S2048x18_1_0_0_1_n_n none (flat x) (shapeCast S256x18 w shapeCasts_S1x256x18_S256x18)
    (constant S2048x18 .f32 0x00000000#32)

/-- The offsets of a block: nine products added up from zero, plus the bias. -/
def offs (T : Fin 3 × Fin 3 → FVec F S2048x18 .f32) (b : Vec F S1x18 .f32) : FVec F S16x128x18 .f32 :=
  shapeCast S16x128x18
    (addf (taps.foldl (fun a p => addf a (T p)) (broadcast S2048x18 (Scalar.ofBits .f32 0x00000000#32)))
      (broadcastTo S2048x18 (shapeCast S1x18 (shapeCast S18 b shapeCasts_S1x18_S18) shapeCasts_S18_S1x18) broadcasts_S1x18_S2048x18))
    shapeCasts_S2048x18_S16x128x18

/-- One of the eighteen offset planes. -/
def coord (o : FVec F S16x128x18 .f32) (q : ℕ) (h : q < 18) : FVec F S16x128 .f32 :=
  shapeCast S16x128 (extractStridedSlice S16x128x1 ![0, 0, q] o (slices_coord q h)) shapeCasts_S16x128x1_S16x128

/-- The hat weight of an offset plane at a displacement: one less the distance, or zero. -/
def hat (d : FVec F S16x128 .f32) (w : BitVec 32) : FVec F S16x128 .f32 :=
  maximumf (subf (broadcast S16x128 (Scalar.ofBits .f32 0x3F800000#32)) (absf (subf d (broadcast S16x128 (Scalar.ofBits .f32 w)))))
    (broadcast S16x128 (Scalar.ofBits .f32 0x00000000#32))

/-- A window weighted pixel by pixel. -/
def weighted (w : FVec F S16x128 .f32) (x : Vec F S1x16x128x256 .f32) : FVec F S16x128x256 .f32 :=
  mulf (broadcastTo S16x128x256 (shapeCast S16x128x1 w shapeCasts_S16x128_S16x128x1) broadcasts_S16x128x1_S16x128x256)
    (shapeCast S16x128x256 x shapeCasts_S1x16x128x256_S16x128x256)

/-- The weighted window of tap `p` at lattice step `e`. -/
def term (X : (r s : ℕ) → r < 9 → s < 9 → Vec F S1x16x128x256 .f32) (o : FVec F S16x128x18 .f32) (p : Fin 3 × Fin 3)
    (e : Fin 6 × Fin 6) : FVec F S16x128x256 .f32 :=
  weighted
    (mulf (hat (coord o (2 * tapNo p) (by have := tapNo_lt p; omega)) (stepWord e.1))
      (hat (coord o (2 * tapNo p + 1) (by have := tapNo_lt p; omega)) (stepWord e.2)))
    (X (p.1.val + e.1.val + 1) (p.2.val + e.2.val + 1) (by omega) (by omega))

/-- A tap's filled scratch times the tap's matrix. -/
def product (a : FVec F S16x128x256 .f32) (w : Vec F S1x256x256 .f32) : FVec F S16x128x256 .f32 :=
  shapeCast S16x128x256
    (matmul dot_S2048x256_S256x256_S2048x256_1_0_0_1_n_n none (shapeCast S2048x256 a shapeCasts_S16x128x256_S2048x256)
      (shapeCast S256x256 w shapeCasts_S1x256x256_S256x256) (constant S2048x256 .f32 0x00000000#32))
    shapeCasts_S2048x256_S16x128x256

/-! ## The stores -/

/-- The whole scratch, -/
abbrev rS : Rect S16x128x256 := Rect.unit (s := S16x128x256) ![0, 0, 0] S16x128x256.size inb_S16x128x256_S16x128x256_0_0_0
/-- and the whole output block. -/
abbrev rO : Rect S1x16x128x256 := Rect.unit (s := S1x16x128x256) ![0, 0, 0, 0] S1x16x128x256.size inb_S1x16x128x256_S1x16x128x256_0_0_0_0

/-- A list of stores into the scratch. -/
abbrev ScPieces (F : FTy → Type) := List (View.Piece (Elt F) S16x128x256 .f32)

/-- A list of stores into the output block. -/
abbrev OutPieces (F : FTy → Type) := List (View.Piece (Elt F) S1x16x128x256 .f32)

variable (arg6 : Memref sig .tc .vmem S1x16x128x256 .f32) (arg7 : Memref sig .tc .vmem S16x128x256 .f32)

/-- A store of the whole scratch. -/
def scStore (L : ScPieces F) (a : FVec F S16x128x256 .f32) : ScPieces F :=
  ⟨rS, shapeCast S16x128x256 a shapeCasts_S16x128x256_S16x128x256⟩ :: L

/-- The scratch as its stores leave it. -/
def scLoad (L : ScPieces F) : Vec F S16x128x256 .f32 := View.readCov arg7.view L rS.toLoadRect

/-- One tap's thirty-six stores. -/
def fill (L : ScPieces F) (T : Fin 6 × Fin 6 → FVec F S16x128x256 .f32) : ScPieces F :=
  steps.foldl (fun L e => scStore L (addf (scLoad arg7 L) (T e))) (scStore L (T (0, 0)))

/-- A store of the whole output block. -/
def outStore (L : OutPieces F) (a : FVec F S16x128x256 .f32) : OutPieces F :=
  ⟨rO, shapeCast S1x16x128x256 a shapeCasts_S16x128x256_S1x16x128x256⟩ :: L

/-- The output block as its stores leave it. -/
def outLoad (L : OutPieces F) : FVec F S16x128x256 .f32 :=
  shapeCast S16x128x256 (View.readCov arg6.view L rO.toLoadRect) shapeCasts_S1x16x128x256_S16x128x256

/-- What the first tap leaves: the scratch's stores and the block's. -/
def firstTap (T : Fin 6 × Fin 6 → FVec F S16x128x256 .f32) (w : Vec F S1x256x256 .f32) : ScPieces F × OutPieces F :=
  (fill arg7 [] T, outStore [] (product (scLoad arg7 (fill arg7 [] T)) w))

/-- What a further tap adds. -/
def nextTap (T : Fin 6 × Fin 6 → FVec F S16x128x256 .f32) (w : Vec F S1x256x256 .f32) (L : ScPieces F × OutPieces F) :
    ScPieces F × OutPieces F :=
  (fill arg7 L.1 T, outStore L.2 (addf (outLoad arg6 L.2) (product (scLoad arg7 (fill arg7 L.1 T)) w)))

/-- All the stores of one grid point. -/
def pieces (T : Fin 3 × Fin 3 → Fin 6 × Fin 6 → FVec F S16x128x256 .f32) (W : Fin 3 × Fin 3 → Vec F S1x256x256 .f32) :
    ScPieces F × OutPieces F :=
  taps.tail.foldl (fun L p => nextTap arg6 arg7 (T p) (W p) L) (firstTap arg7 (T (0, 0)) (W (0, 0)))

/-! ## The stores read back -/

omit arg6 in
theorem scLoad_scStore (L : ScPieces F) (a : FVec F S16x128x256 .f32) : scLoad arg7 (scStore L a) = a :=
  (View.readCov_cons_toLoadRect _ _ _ _).trans (shapeCast_self _ _)

omit arg7 in
theorem outLoad_outStore (L : OutPieces F) (a : FVec F S16x128x256 .f32) : outLoad arg6 (outStore L a) = a := by
  unfold outLoad outStore
  rw [View.readCov_cons_toLoadRect]
  exact shapeCast_shapeCast a _ _

/-- A tap's scratch, filled: the thirty-six terms added up. -/
def filled (T : Fin 6 × Fin 6 → FVec F S16x128x256 .f32) : FVec F S16x128x256 .f32 :=
  steps.foldl (fun a e => addf a (T e)) (T (0, 0))

/-- The block: the nine products added up. -/
def block (T : Fin 3 × Fin 3 → Fin 6 × Fin 6 → FVec F S16x128x256 .f32) (W : Fin 3 × Fin 3 → Vec F S1x256x256 .f32) :
    FVec F S16x128x256 .f32 :=
  taps.tail.foldl (fun a p => addf a (product (filled (T p)) (W p))) (product (filled (T (0, 0))) (W (0, 0)))

omit arg6 in
/-- Storing the sum so far and loading it again adds the terms up, whatever the list of steps. -/
theorem scLoad_foldl (T : Fin 6 × Fin 6 → FVec F S16x128x256 .f32) (es : List (Fin 6 × Fin 6)) :
    ∀ (L : ScPieces F) (a : FVec F S16x128x256 .f32),
      scLoad arg7 (es.foldl (fun L e => scStore L (addf (scLoad arg7 L) (T e))) (scStore L a)) = es.foldl (fun a e => addf a (T e)) a := by
  induction es with
  | nil => exact fun L a => scLoad_scStore arg7 L a
  | cons e es ih =>
    intro L a
    rw [List.foldl_cons, List.foldl_cons, scLoad_scStore]
    exact ih _ _

omit arg6 in
theorem scLoad_fill (L : ScPieces F) (T : Fin 6 × Fin 6 → FVec F S16x128x256 .f32) : scLoad arg7 (fill arg7 L T) = filled T :=
  scLoad_foldl arg7 T steps _ _

/-- The block's last store holds the sum over the taps, whatever the list of taps. -/
theorem nextTap_foldl (T : Fin 3 × Fin 3 → Fin 6 × Fin 6 → FVec F S16x128x256 .f32) (W : Fin 3 × Fin 3 → Vec F S1x256x256 .f32)
    (ps : List (Fin 3 × Fin 3)) : ∀ (S : ScPieces F) (L : OutPieces F) (a : FVec F S16x128x256 .f32),
      ∃ L' : OutPieces F, (ps.foldl (fun L p => nextTap arg6 arg7 (T p) (W p) L) (S, outStore L a)).2
        = outStore L' (ps.foldl (fun a p => addf a (product (filled (T p)) (W p))) a) := by
  induction ps with
  | nil => exact fun S L a => ⟨L, rfl⟩
  | cons p ps ih =>
    intro S L a
    rw [List.foldl_cons, List.foldl_cons]
    have e : nextTap arg6 arg7 (T p) (W p) (S, outStore L a)
        = (fill arg7 S (T p), outStore (outStore L a) (addf a (product (filled (T p)) (W p)))) := by
      unfold nextTap
      rw [scLoad_fill, outLoad_outStore]
    rw [e]
    exact ih _ _ _

/-- So the stores leave the block. -/
theorem pieces_block (T : Fin 3 × Fin 3 → Fin 6 × Fin 6 → FVec F S16x128x256 .f32) (W : Fin 3 × Fin 3 → Vec F S1x256x256 .f32) :
    ∃ L : OutPieces F, (pieces arg6 arg7 T W).2 = outStore L (block T W) := by
  unfold pieces firstTap
  rw [scLoad_fill]
  exact nextTap_foldl arg6 arg7 T W _ _ _ _

/-! ## The run's stores are these -/

section Run

variable (c : Dev nD) (i : grid0.Coords) (arg2 : Memref sig .tc .vmem S1x24x136x256 .f32) (harg2 : arg2.IsWhole)
  (arg3 : Memref sig .tc .vmem S9x256x18 .f32) (harg3 : arg3.IsWhole) (arg4 : Memref sig .tc .vmem S1x18 .f32) (harg4 : arg4.IsWhole)
  (arg5 : Memref sig .tc .vmem S9x256x256 .f32) (harg5 : arg5.IsWhole) (harg6 : arg6.IsWhole) (harg7 : arg7.IsWhole)
  (x0 : Vec F S1x24x136x256 .f32) (x1 : Vec F S9x256x18 .f32) (x2 : Vec F S1x18 .f32) (x3 : Vec F S9x256x256 .f32)

/-- The window of the image block at row `r`, column `s`, as the body loads it. -/
def winLoad (r s : ℕ) (hr : r < 9) (hs : s < 9) : Vec F S1x16x128x256 .f32 :=
  View.readAt (Elt F) arg2.view (Rect.unit (s := S1x24x136x256) ![0, r, s, 0] S1x16x128x256.size (inb_win r s hr hs)).toLoadRect (harg2.unread x0)

/-- A tap's slice of the offset filter, as the body loads it. -/
def woLoad (p : Fin 3 × Fin 3) : Vec F S1x256x18 .f32 :=
  View.readAt (Elt F) arg3.view (Rect.unit (s := S9x256x18) ![tapNo p, 0, 0] S1x256x18.size (inb_wo _ (tapNo_lt p))).toLoadRect (harg3.unread x1)

/-- The bias, as the body loads it. -/
def boLoad : Vec F S1x18 .f32 :=
  View.readAt (Elt F) arg4.view (Rect.unit (s := S1x18) ![0, 0] S1x18.size inb_S1x18_S1x18_0_0).toLoadRect (harg4.unread x2)

/-- A tap's matrix, as the body loads it. -/
def wcLoad (p : Fin 3 × Fin 3) : Vec F S1x256x256 .f32 :=
  View.readAt (Elt F) arg5.view (Rect.unit (s := S9x256x256) ![tapNo p, 0, 0] S1x256x256.size (inb_wc _ (tapNo_lt p))).toLoadRect (harg5.unread x3)

/-- The block's offsets, from the body's loads. -/
def offsLoad : FVec F S16x128x18 .f32 :=
  offs (fun p => offTerm (winLoad arg2 harg2 x0 (p.1.val + 3) (p.2.val + 3) (by omega) (by omega)) (woLoad arg3 harg3 x1 p)) (boLoad arg4 harg4 x2)

/-- The stores the run found in the output block are the recursion's. -/
theorem run_pieces :
    (kernelRun0_A c i arg2 harg2 arg3 harg3 arg4 harg4 arg5 harg5 arg6 harg6 arg7 harg7 x0 x1 x2 x3).1
      = (pieces arg6 arg7 (term (winLoad arg2 harg2 x0) (offsLoad arg2 harg2 arg3 harg3 arg4 harg4 x0 x1 x2)) (wcLoad arg5 harg5 x3)).2 := by
  sl_kernel_rfl

/-- What the run leaves in the output block. -/
theorem out_block :
    out0_A_4 c i arg2 harg2 arg3 harg3 arg4 harg4 arg5 harg5 arg6 harg6 arg7 harg7 x0 x1 x2 x3
      = shapeCast S1x16x128x256
          (block (term (winLoad arg2 harg2 x0) (offsLoad arg2 harg2 arg3 harg3 arg4 harg4 x0 x1 x2)) (wcLoad arg5 harg5 x3))
          shapeCasts_S16x128x256_S1x16x128x256 := by
  unfold out0_A_4
  rw [run_pieces]
  obtain ⟨L, hL⟩ := pieces_block arg6 arg7 (term (winLoad arg2 harg2 x0) (offsLoad arg2 harg2 arg3 harg3 arg4 harg4 x0 x1 x2))
    (wcLoad arg5 harg5 x3)
  rw [hL, View.read_writes_junk_eq_canon]
  exact View.canon_cons_unit_zero (by funext a; fin_cases a <;> rfl) _ _ _

end Run

end Cert.KernelIdeal.Body

end
-- ==== Proof.BlockAt.lean ====
/- The pieces of the kernel body, read at an index: each product, weight, window and sum of `Body` as the entry it holds. -/
module

public import proofs.«01_k».proof.Proof.Body
public import Idealize.ShloMosaic.Lib.Pointwise

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

/-- One tap's product of the offset convolution, at a pixel and plane: the sum over the channels. -/
theorem offTerm_at (x : Vec Ideal S1x16x128x256 .f32) (w : Vec Ideal S1x256x18 .f32) (a : Fin 16) (b : Fin 128) (q : Fin 18) :
    offTerm x w (ix2 (⟨a.val * 128 + b.val, by omega⟩ : Fin 2048) q) = ∑ c : Fin 256, x (ix4 0 a b c) * w (ix3 0 c q) := by
  pointwise [offTerm, flat]

/-- A tap's filled scratch times its matrix, at a pixel and output channel: the sum over the channels. -/
theorem product_at (t : FVec Ideal S16x128x256 .f32) (w : Vec Ideal S1x256x256 .f32) (a : Fin 16) (b : Fin 128) (o : Fin 256) :
    product t w (ix3 a b o) = ∑ c : Fin 256, t (ix3 a b c) * w (ix3 0 c o) := by
  pointwise [product]

/-- A weighted window at an index: the pixel's weight times the window's entry. -/
theorem weighted_at (w : FVec Ideal S16x128 .f32) (x : Vec Ideal S1x16x128x256 .f32) (a : Fin 16) (b : Fin 128) (c : Fin 256) :
    weighted w x (ix3 a b c) = w (ix2 a b) * x (ix4 0 a b c) := by
  pointwise [weighted]

/-- The hat weight the body computes from an offset and a lattice step's word. -/
theorem hat_at (d : FVec Ideal S16x128 .f32) (w : BitVec 32) (a : Fin 16) (b : Fin 128) :
    hat d w (ix2 a b) = max (1 - max (d (ix2 a b) - Ideal.ofBits .f32 w) (-(d (ix2 a b) - Ideal.ofBits .f32 w))) 0 := by
  pointwise [hat]
  rfl

/-- One plane of the offsets, at a pixel. -/
theorem coord_at (o : FVec Ideal S16x128x18 .f32) (q : ℕ) (h : q < 18) (a : Fin 16) (b : Fin 128) :
    coord o q h (ix2 a b) = o (ix3 a b ⟨q, h⟩) := by
  pointwise [coord]

/-- Adding from the first summand on, one by one, over the thirty-six lattice steps is the double sum over the lattice. -/
theorem steps_sum (t : Fin 6 × Fin 6 → EReal) : steps.foldl (fun a e => a + t e) (t (0, 0)) = ∑ i : Fin 6, ∑ j : Fin 6, t (i, j) := by
  simp only [steps, List.foldl_cons, List.foldl_nil, Fin.sum_univ_six, add_assoc]

/-- Adding from the first summand on, one by one, over the nine taps is the double sum over the taps. -/
theorem taps_sum (t : Fin 3 × Fin 3 → EReal) : taps.tail.foldl (fun a p => a + t p) (t (0, 0)) = ∑ i : Fin 3, ∑ j : Fin 3, t (i, j) := by
  simp only [taps, List.tail_cons, List.foldl_cons, List.foldl_nil, Fin.sum_univ_three, add_assoc]

/-- Adding from zero on, one by one, over the nine taps is the double sum over the taps. -/
theorem taps_sum_zero (t : Fin 3 × Fin 3 → EReal) : taps.foldl (fun a p => a + t p) 0 = ∑ i : Fin 3, ∑ j : Fin 3, t (i, j) := by
  rw [← taps_sum]
  simp only [taps, List.tail_cons, List.foldl_cons, zero_add]

/-- Arrays added up one by one, at an index, are the entries added up one by one. -/
theorem foldl_at {S : Shape} {ι : Type} (ps : List ι) (T : ι → FVec Ideal S .f32) (j : S.Idx) :
    ∀ a : FVec Ideal S .f32, (ps.foldl (fun a p => addf a (T p)) a) j = ps.foldl (fun a p => a + T p j) (a j) := by
  induction ps with
  | nil => exact fun a => rfl
  | cons p ps ih => exact fun a => ih (addf a (T p))

/-- The offsets of a block, at a pixel and plane: the nine products' sum, plus the bias. -/
theorem offs_at (X : Fin 3 × Fin 3 → Vec Ideal S1x16x128x256 .f32) (W : Fin 3 × Fin 3 → Vec Ideal S1x256x18 .f32) (bo : Vec Ideal S1x18 .f32)
    (a : Fin 16) (b : Fin 128) (q : Fin 18) :
    offs (fun p => offTerm (X p) (W p)) bo (ix3 a b q)
      = (∑ i : Fin 3, ∑ j : Fin 3, ∑ c : Fin 256, X (i, j) (ix4 0 a b c) * W (i, j) (ix3 0 c q)) + bo (ix2 0 q) := by
  pointwise [offs]
  rw [foldl_at]
  simp only [offTerm_at, ValueIdx.broadcast_apply]
  rw [taps_sum_zero fun p => ∑ c : Fin 256, X p (ix4 0 a b c) * W p (ix3 0 c q)]

/-- The filled scratch at an index: the sum of the weighted windows over the lattice. -/
theorem filled_at (T : Fin 6 × Fin 6 → FVec Ideal S16x128x256 .f32) (j : S16x128x256.Idx) :
    filled T j = ∑ i : Fin 6, ∑ k : Fin 6, T (i, k) j := by
  unfold filled
  rw [foldl_at, steps_sum fun e => T e j]

/-- The block at an index: the taps' scratches times the taps' matrices, added up over taps and channels. -/
theorem block_at (T : Fin 3 × Fin 3 → Fin 6 × Fin 6 → FVec Ideal S16x128x256 .f32) (W : Fin 3 × Fin 3 → Vec Ideal S1x256x256 .f32)
    (a : Fin 16) (b : Fin 128) (o : Fin 256) :
    block T W (ix3 a b o)
      = ∑ i : Fin 3, ∑ j : Fin 3, ∑ c : Fin 256, (∑ u : Fin 6, ∑ v : Fin 6, T (i, j) (u, v) (ix3 a b c)) * W (i, j) (ix3 0 c o) := by
  unfold block
  rw [foldl_at, taps_sum fun p => product (filled (T p)) (W p) (ix3 a b o)]
  simp only [product_at, filled_at]

/-- A lattice step's word is the step's displacement, minus two to three. -/
theorem step_val (i : Fin 6) : Ideal.ofBits .f32 (stepWord i) = ((((i.val : ℤ) - 2 : ℤ) : ℝ) : EReal) := by
  fin_cases i <;> simp [stepWord, Ideal.ofBits, Ideal.ieee, -EReal.coe_mul, -EReal.coe_neg] <;> norm_num

section Loads

variable (arg2 : Memref sig .tc .vmem S1x24x136x256 .f32) (harg2 : arg2.IsWhole)
  (arg3 : Memref sig .tc .vmem S9x256x18 .f32) (harg3 : arg3.IsWhole) (arg4 : Memref sig .tc .vmem S1x18 .f32) (harg4 : arg4.IsWhole)
  (arg5 : Memref sig .tc .vmem S9x256x256 .f32) (harg5 : arg5.IsWhole)
  (x0 : Vec Ideal S1x24x136x256 .f32) (x1 : Vec Ideal S9x256x18 .f32) (x2 : Vec Ideal S1x18 .f32) (x3 : Vec Ideal S9x256x256 .f32)

/-- A window of the image block, read at an index, is the block's entry displaced by the window's corner. -/
theorem winLoad_at (r s : ℕ) (hr : r < 9) (hs : s < 9) (a : Fin 16) (b : Fin 128) (c : Fin 256) :
    winLoad arg2 harg2 x0 r s hr hs (ix4 0 a b c) = x0 (ix4 0 ⟨r + a.val, by omega⟩ ⟨s + b.val, by omega⟩ c) := by
  unfold winLoad
  rw [harg2.readAt_unread]
  pointwise

/-- A tap's slice of the offset weights, read at an index. -/
theorem woLoad_at (p : Fin 3 × Fin 3) (c : Fin 256) (q : Fin 18) :
    woLoad arg3 harg3 x1 p (ix3 0 c q) = x1 (ix3 ⟨tapNo p, tapNo_lt p⟩ c q) := by
  unfold woLoad
  rw [harg3.readAt_unread]
  pointwise

/-- The bias, read at an index. -/
theorem boLoad_at (q : Fin 18) : boLoad arg4 harg4 x2 (ix2 0 q) = x2 (ix2 0 q) := by
  unfold boLoad
  rw [harg4.readAt_unread]
  pointwise

/-- A tap's slice of the filter, read at an index. -/
theorem wcLoad_at (p : Fin 3 × Fin 3) (c o : Fin 256) :
    wcLoad arg5 harg5 x3 p (ix3 0 c o) = x3 (ix3 ⟨tapNo p, tapNo_lt p⟩ c o) := by
  unfold wcLoad
  rw [harg5.readAt_unread]
  pointwise

end Loads

end Cert.KernelIdeal.Body

end
-- ==== Proof.Spec.lean ====
/- The deformable convolution as formulas over the extended reals: what both programs are shown to compute. -/
module

public import Idealize.ShloMosaic.Lib.Pointwise

@[expose] public section

noncomputable section

namespace Cert.DeformConv

open Idealize.ShloMosaic

/-- An image. -/
abbrev Img := (⟨4, ![4, 256, 128, 128]⟩ : Shape).Idx → EReal
/-- Offset weights. -/
abbrev OffW := (⟨4, ![18, 256, 3, 3]⟩ : Shape).Idx → EReal
/-- A bias for each offset plane. -/
abbrev OffB := (⟨1, ![18]⟩ : Shape).Idx → EReal
/-- A filter. -/
abbrev ConvW := (⟨4, ![256, 256, 3, 3]⟩ : Shape).Idx → EReal

/-- The image at a row and a column that may lie outside it, where it is zero. -/
def px (x : Img) (n : Fin 4) (r s : ℤ) (c : Fin 256) : EReal :=
  if h : (0 ≤ r ∧ r < 128) ∧ (0 ≤ s ∧ s < 128) then x (ix4 n c ⟨r.toNat, by omega⟩ ⟨s.toNat, by omega⟩) else 0

/-- Equal coordinates read the same pixel. -/
theorem px_congr (x : Img) (n : Fin 4) (c : Fin 256) {r r' s s' : ℤ} (hr : r = r') (hs : s = s') : px x n r s c = px x n r' s' c := by
  rw [hr, hs]

/-- Tap `(i, j)`'s number. -/
def tap (i j : Fin 3) : ℕ := 3 * i.val + j.val

/-- There are nine taps. -/
theorem tap_lt (i j : Fin 3) : tap i j < 9 := by unfold tap; omega

/-- A tap's row, from its number. -/
theorem tap_div (i j : Fin 3) {h} : (⟨tap i j / 3, h⟩ : Fin 3) = i := Fin.ext (by unfold tap; dsimp only; omega)

/-- A tap's column, from its number. -/
theorem tap_mod (i j : Fin 3) {h} : (⟨tap i j % 3, h⟩ : Fin 3) = j := Fin.ext (by unfold tap; dsimp only; omega)

/-- The offset plane `q` at a pixel: a three by three convolution of the image, plus a bias. -/
def off (x : Img) (wo : OffW) (bo : OffB) (n : Fin 4) (q : Fin 18) (h w : ℤ) : EReal :=
  (∑ i : Fin 3, ∑ j : Fin 3, ∑ c : Fin 256, px x n (h + i.val - 1) (w + j.val - 1) c * wo (ix4 q c i j)) + bo (ix1 q)

/-- A tap's vertical offset -/
def offY (x : Img) (wo : OffW) (bo : OffB) (n : Fin 4) (i j : Fin 3) (h w : ℤ) : EReal :=
  off x wo bo n ⟨2 * tap i j, by have := tap_lt i j; omega⟩ h w

/-- and its horizontal one. -/
def offX (x : Img) (wo : OffW) (bo : OffB) (n : Fin 4) (i j : Fin 3) (h w : ℤ) : EReal :=
  off x wo bo n ⟨2 * tap i j + 1, by have := tap_lt i j; omega⟩ h w

/-- The hat weight of a displacement `d` at the lattice step `u`, whose displacement is `u - 2`. -/
def hatW (d : EReal) (u : Fin 6) : EReal :=
  max (1 - max (d - ((((u.val : ℤ) - 2 : ℤ) : ℝ) : EReal)) (-(d - ((((u.val : ℤ) - 2 : ℤ) : ℝ) : EReal)))) 0

/-- A sample near row `r` and column `s`, displaced by `(dy, dx)`: the hat weighted sum over the lattice. -/
def sample (x : Img) (n : Fin 4) (r s : ℤ) (dy dx : EReal) (c : Fin 256) : EReal :=
  ∑ u : Fin 6, ∑ v : Fin 6, hatW dy u * hatW dx v * px x n (r + u.val - 2) (s + v.val - 2) c

/-- The result at a pixel: the samples times the filter, added up over taps and channels. -/
def conv (x : Img) (wo : OffW) (bo : OffB) (wc : ConvW) (n : Fin 4) (o : Fin 256) (h w : ℤ) : EReal :=
  ∑ i : Fin 3, ∑ j : Fin 3, ∑ c : Fin 256,
    sample x n (h + i.val - 1) (w + j.val - 1) (offY x wo bo n i j h w) (offX x wo bo n i j h w) c * wc (ix4 o c i j)

end Cert.DeformConv

end
-- ==== Proof.KernelBlock.lean ====
/- One grid point's block is the deformable convolution at the block's pixels, when the staged arguments are the padded
   image's rows, the two filters by tap and the bias. -/
module

public import proofs.«01_k».proof.Proof.BlockAt
public import proofs.«01_k».proof.Proof.Spec

@[expose] public section

set_option maxRecDepth 16384

noncomputable section

namespace Cert.KernelIdeal.Body

open Idealize.ShloMosaic Idealize.ShloMosaic.TcCoe Idealize.ShloMosaic.Tactic
open Cert.KernelIdeal Cert.KernelIdeal.Gen Cert.DeformConv

/-- What the staged arguments hold at image `n`, first row `h0` of the block: the image padded by four on each side,
    the filters with the tap leading, the bias. -/
structure Staged (x : Img) (wo : OffW) (bo : OffB) (wc : ConvW) (n : Fin 4) (h0 : ℤ)
    (x0 : Vec Ideal S1x24x136x256 .f32) (x1 : Vec Ideal S9x256x18 .f32) (x2 : Vec Ideal S1x18 .f32) (x3 : Vec Ideal S9x256x256 .f32) : Prop where
  img : ∀ (r : Fin 24) (s : Fin 136) (c : Fin 256), x0 (ix4 0 r s c) = px x n (h0 + r.val - 4) (s.val - 4) c
  offW : ∀ (i j : Fin 3) (c : Fin 256) (q : Fin 18), x1 (ix3 ⟨tap i j, tap_lt i j⟩ c q) = wo (ix4 q c i j)
  offB : ∀ q : Fin 18, x2 (ix2 0 q) = bo (ix1 q)
  convW : ∀ (i j : Fin 3) (c o : Fin 256), x3 (ix3 ⟨tap i j, tap_lt i j⟩ c o) = wc (ix4 o c i j)

section Loads

variable (arg2 : Memref sig .tc .vmem S1x24x136x256 .f32) (harg2 : arg2.IsWhole)
  (arg3 : Memref sig .tc .vmem S9x256x18 .f32) (harg3 : arg3.IsWhole) (arg4 : Memref sig .tc .vmem S1x18 .f32) (harg4 : arg4.IsWhole)
  (arg5 : Memref sig .tc .vmem S9x256x256 .f32) (harg5 : arg5.IsWhole)
  {x : Img} {wo : OffW} {bo : OffB} {wc : ConvW} {n : Fin 4} {h0 : ℤ}
  {x0 : Vec Ideal S1x24x136x256 .f32} {x1 : Vec Ideal S9x256x18 .f32} {x2 : Vec Ideal S1x18 .f32} {x3 : Vec Ideal S9x256x256 .f32}
  (H : Staged x wo bo wc n h0 x0 x1 x2 x3)

include H

/-- A window of the staged image, at a pixel. -/
theorem win_px (r s : ℕ) (hr : r < 9) (hs : s < 9) (a : Fin 16) (b : Fin 128) (c : Fin 256) :
    winLoad arg2 harg2 x0 r s hr hs (ix4 0 a b c) = px x n (h0 + a.val + r - 4) (b.val + s - 4) c := by
  rw [winLoad_at, H.img]
  exact px_congr x n c (by push_cast; ring) (by push_cast; ring)

/-- The block's offsets are the offset convolution's. -/
theorem offs_off (a : Fin 16) (b : Fin 128) (q : Fin 18) :
    offsLoad arg2 harg2 arg3 harg3 arg4 harg4 x0 x1 x2 (ix3 a b q) = off x wo bo n q (h0 + a.val) b.val := by
  refine (offs_at _ _ _ a b q).trans (congrArg₂ (· + ·) ?_ ((boLoad_at arg4 harg4 x2 q).trans (H.offB q)))
  refine Finset.sum_congr rfl fun i _ => Finset.sum_congr rfl fun j _ => Finset.sum_congr rfl fun c _ => ?_
  exact congrArg₂ (· * ·) ((win_px arg2 harg2 H _ _ _ _ a b c).trans (px_congr x n c (by push_cast; ring) (by push_cast; ring)))
    ((woLoad_at arg3 harg3 x1 (i, j) c q).trans (H.offW i j c q))

/-- A tap's weighted window at a lattice step. -/
theorem term_px (p : Fin 3 × Fin 3) (e : Fin 6 × Fin 6) (a : Fin 16) (b : Fin 128) (c : Fin 256) :
    term (winLoad arg2 harg2 x0) (offsLoad arg2 harg2 arg3 harg3 arg4 harg4 x0 x1 x2) p e (ix3 a b c)
      = hatW (offY x wo bo n p.1 p.2 (h0 + a.val) b.val) e.1 * hatW (offX x wo bo n p.1 p.2 (h0 + a.val) b.val) e.2
        * px x n (h0 + a.val + p.1.val - 1 + e.1.val - 2) (b.val + p.2.val - 1 + e.2.val - 2) c := by
  unfold term
  rw [weighted_at, win_px arg2 harg2 H]
  show hat _ _ _ * hat _ _ _ * _ = _
  rw [hat_at, hat_at, coord_at, coord_at, offs_off arg2 harg2 arg3 harg3 arg4 harg4 H, offs_off arg2 harg2 arg3 harg3 arg4 harg4 H, step_val, step_val]
  exact congrArg₂ (· * ·) rfl (px_congr x n c (by push_cast; ring) (by push_cast; ring))

/-- The block is the convolution at its pixels. -/
theorem block_conv (a : Fin 16) (b : Fin 128) (o : Fin 256) :
    block (term (winLoad arg2 harg2 x0) (offsLoad arg2 harg2 arg3 harg3 arg4 harg4 x0 x1 x2)) (wcLoad arg5 harg5 x3) (ix3 a b o)
      = conv x wo bo wc n o (h0 + a.val) b.val := by
  rw [block_at]
  unfold conv sample
  refine Finset.sum_congr rfl fun i _ => Finset.sum_congr rfl fun j _ => Finset.sum_congr rfl fun c _ => ?_
  rw [wcLoad_at]
  exact congrArg₂ (· * ·)
    (Finset.sum_congr rfl fun u _ => Finset.sum_congr rfl fun v _ => term_px arg2 harg2 arg3 harg3 arg4 harg4 H (i, j) (u, v) a b c)
    (H.convW i j c o)

end Loads

end Cert.KernelIdeal.Body

end
-- ==== Proof.KernelArray.lean ====
/- What the kernel's arrays hold: the staged blocks as parts of the padded image, the filters and the bias; the region's
   result array, tiled by the grid's blocks; and the result after the last transpose. -/
module

public import proofs.«01_k».proof.Proof.KernelBlock
public import Idealize.ShloMosaic.Lib.Pipeline.Value

@[expose] public section

set_option maxRecDepth 16384

noncomputable section

namespace Cert.KernelIdeal.Body

open Idealize.ShloMosaic Idealize.ShloMosaic.TcCoe Idealize.ShloMosaic.Tactic Idealize.SL.Sem
open Idealize.ShloMosaic.Pipeline (Dat)
open Cert.KernelIdeal Cert.KernelIdeal.Gen Cert.DeformConv

variable (m : (ℓ : Loc nD τ sig) → Buf (Elt Ideal) ℓ) (c : Dev nD)

/-- The arguments on a device. -/
abbrev img : Img := m ((c.tc : Thread nD τ).loc main_arg0)
/-- The offset weights at launch. -/
abbrev offW : OffW := m ((c.tc : Thread nD τ).loc main_arg1)
/-- The bias at launch. -/
abbrev offB : OffB := m ((c.tc : Thread nD τ).loc main_arg2)
/-- The filter at launch. -/
abbrev convW : ConvW := m ((c.tc : Thread nD τ).loc main_arg3)

/-! ## The host operations before the region -/

/-- The padded image holds the image, four rows and columns in. -/
theorem padded_at (n : Fin 4) (r s : Fin 136) (k : Fin 256) :
    V m c main_call0_v1 (ix4 n r s k) = px (img m c) n (r.val - 4) (s.val - 4) k := by
  have e : V m c main_call0_v1 = pad S4x136x136x256 ![0, 4, 4, 0] ![0, 4, 4, 0] ![0, 0, 0, 0]
      (transpose S4x128x128x256 [0, 2, 3, 1] (img m c) transposes_S4x256x128x128_S4x128x128x256_0_2_3_1) (sitofp (F := Ideal) .f32 (constantI S_ 32 0#32)) pads_S4x128x128x256_S4x136x136x256_000_440_440_000 h_S_ := by
    dsimp only [V, V0, hostOps0, List.flatten_cons, List.flatten_nil, List.append_nil, List.cons_append, List.nil_append]
    after_results
    rfl
  rw [e]
  pointwise
  unfold px
  by_cases h : (4 ≤ r.val ∧ r.val - 4 < 128) ∧ 4 ≤ s.val ∧ s.val - 4 < 128
  · rw [dif_pos h, dif_pos (by omega)]
    congr 2 <;> apply Fin.ext <;> simp only [] <;> omega
  · rw [dif_neg h, dif_neg (by omega)]
    show ((((0#32 : BitVec 32).toInt : ℤ) : ℝ) : EReal) = 0
    simp

/-- The offset filter, tap leading. -/
theorem offW_at (i j : Fin 3) (k : Fin 256) (q : Fin 18) :
    V m c main_call0_v3 (ix3 ⟨tap i j, tap_lt i j⟩ k q) = offW m c (ix4 q k i j) := by
  have e : V m c main_call0_v3 = transpose S9x256x18 [2, 1, 0] (shapeCast S18x256x9 (offW m c) shapeCasts_S18x256x3x3_S18x256x9) transposes_S18x256x9_S9x256x18_2_1_0 := by
    dsimp only [V, V0, hostOps0, List.flatten_cons, List.flatten_nil, List.append_nil, List.cons_append, List.nil_append]
    after_results
    rfl
  rw [e]
  pointwise
  rw [tap_div i j, tap_mod i j]

/-- The filter, tap leading. -/
theorem convW_at (i j : Fin 3) (k o : Fin 256) :
    V m c main_call0_v5 (ix3 ⟨tap i j, tap_lt i j⟩ k o) = convW m c (ix4 o k i j) := by
  have e : V m c main_call0_v5 = transpose S9x256x256 [2, 1, 0] (shapeCast S256x256x9 (convW m c) shapeCasts_S256x256x3x3_S256x256x9) transposes_S256x256x9_S9x256x256_2_1_0 := by
    dsimp only [V, V0, hostOps0, List.flatten_cons, List.flatten_nil, List.append_nil, List.cons_append, List.nil_append]
    after_results
    rfl
  rw [e]
  pointwise
  rw [tap_div i j, tap_mod i j]

/-- The bias as a row. -/
theorem offB_at (q : Fin 18) : V m c main_call0_v6 (ix2 0 q) = offB m c (ix1 q) := by
  have e : V m c main_call0_v6 = shapeCast S1x18 (offB m c) shapeCasts_S18_S1x18 := by
    dsimp only [V, V0, hostOps0, List.flatten_cons, List.flatten_nil, List.append_nil, List.cons_append, List.nil_append]
    after_results
    rfl
  rw [e]
  pointwise

/-! ## The blocks -/

/-- Point `t`'s image -/
def imgOf (t : Fin cfg0.N) : Fin 4 := ⟨t.val / 8, by have := t.isLt; have h : cfg0.N = 32 := N_0; omega⟩

/-- and its first row. -/
def rowOf (t : Fin cfg0.N) : ℕ := 16 * (t.val % 8)

/-- A block's sixteen rows lie in the image. -/
theorem rowOf_le (t : Fin cfg0.N) : rowOf t + 16 ≤ 128 := by unfold rowOf; omega

/-- Where the windows' blocks begin, over the grid's points. -/
theorem idx_facts : ∀ t : Fin cfg0.N,
    (win0_0.index t 0 = t.val / 8 ∧ win0_0.index t 1 = 16 * (t.val % 8) ∧ win0_0.index t 2 = 0 ∧ win0_0.index t 3 = 0)
      ∧ (win0_1.index t 0 = 0 ∧ win0_1.index t 1 = 0 ∧ win0_1.index t 2 = 0) ∧ (win0_2.index t 0 = 0 ∧ win0_2.index t 1 = 0)
      ∧ (win0_3.index t 0 = 0 ∧ win0_3.index t 1 = 0 ∧ win0_3.index t 2 = 0)
      ∧ (win0_4.index t 0 = t.val / 8 ∧ win0_4.index t 1 = t.val % 8 ∧ win0_4.index t 2 = 0 ∧ win0_4.index t 3 = 0) :=
  (by decide +kernel : ∀ t : Fin grid0.N, _)

/-- The image window's block. -/
theorem iblk0_at (t : Fin cfg0.N) (r : Fin 24) (s : Fin 136) (k : Fin 256) :
    (iblk m c 0 t : Vec Ideal S1x24x136x256 .f32) (ix4 0 r s k)
      = V m c main_call0_v1 (ix4 (imgOf t) ⟨rowOf t + r.val, by have := rowOf_le t; omega⟩ s k) := by
  obtain ⟨⟨h0, h1, h2, h3⟩, -⟩ := idx_facts t
  show V m c main_call0_v1 (((cfg0.win 0).blk t).view.emb (ix4 0 r s k)) = _
  congr 1
  funext a
  apply Fin.ext
  fin_cases a
  · show win0_0.index t 0 + 1 * 0 = t.val / 8
    omega
  · show win0_0.index t 1 + 1 * r.val = 16 * (t.val % 8) + r.val
    omega
  · show win0_0.index t 2 + 1 * s.val = s.val
    omega
  · show win0_0.index t 3 + 1 * k.val = k.val
    omega

/-- The offset filter's block is all of it, -/
theorem iblk1_at (t : Fin cfg0.N) (k : Fin 9) (i : Fin 256) (q : Fin 18) :
    (iblk m c 1 t : Vec Ideal S9x256x18 .f32) (ix3 k i q) = V m c main_call0_v3 (ix3 k i q) := by
  obtain ⟨-, ⟨h0, h1, h2⟩, -⟩ := idx_facts t
  show V m c main_call0_v3 (((cfg0.win 1).blk t).view.emb (ix3 k i q)) = _
  congr 1
  funext a
  apply Fin.ext
  fin_cases a
  · show win0_1.index t 0 * 9 + 1 * k.val = k.val
    omega
  · show win0_1.index t 1 * 256 + 1 * i.val = i.val
    omega
  · show win0_1.index t 2 * 18 + 1 * q.val = q.val
    omega

/-- the bias's too, -/
theorem iblk2_at (t : Fin cfg0.N) (q : Fin 18) :
    (iblk m c 2 t : Vec Ideal S1x18 .f32) (ix2 0 q) = V m c main_call0_v6 (ix2 0 q) := by
  obtain ⟨-, -, ⟨h0, h1⟩, -⟩ := idx_facts t
  show V m c main_call0_v6 (((cfg0.win 2).blk t).view.emb (ix2 0 q)) = _
  congr 1
  funext a
  apply Fin.ext
  fin_cases a
  · show win0_2.index t 0 * 1 + 1 * 0 = 0
    omega
  · show win0_2.index t 1 * 18 + 1 * q.val = q.val
    omega

/-- and the filter's. -/
theorem iblk3_at (t : Fin cfg0.N) (k : Fin 9) (i o : Fin 256) :
    (iblk m c 3 t : Vec Ideal S9x256x256 .f32) (ix3 k i o) = V m c main_call0_v5 (ix3 k i o) := by
  obtain ⟨-, -, -, ⟨h0, h1, h2⟩, -⟩ := idx_facts t
  show V m c main_call0_v5 (((cfg0.win 3).blk t).view.emb (ix3 k i o)) = _
  congr 1
  funext a
  apply Fin.ext
  fin_cases a
  · show win0_3.index t 0 * 9 + 1 * k.val = k.val
    omega
  · show win0_3.index t 1 * 256 + 1 * i.val = i.val
    omega
  · show win0_3.index t 2 * 256 + 1 * o.val = o.val
    omega

/-- So the staged arguments are the padded image's rows, the filters and the bias. -/
theorem staged (t : Fin cfg0.N) :
    Staged (img m c) (offW m c) (offB m c) (convW m c) (imgOf t) (rowOf t) (iblk m c 0 t) (iblk m c 1 t) (iblk m c 2 t) (iblk m c 3 t) where
  img r s k := by
    rw [iblk0_at, padded_at]
    exact px_congr _ _ _ (by push_cast; ring) rfl
  offW i j k q := (iblk1_at m c t _ k q).trans (offW_at m c i j k q)
  offB q := (iblk2_at m c t q).trans (offB_at m c q)
  convW i j k o := (iblk3_at m c t _ k o).trans (convW_at m c i j k o)

/-! ## The result -/

/-- The region's result array: the convolution, channels last. -/
def result : S4x128x128x256.Idx → EReal := fun y =>
  conv (img m c) (offW m c) (offB m c) (convW m c) ⟨(y 0).val, (y 0).isLt⟩ ⟨(y 3).val, (y 3).isLt⟩ ((y 1).val : ℕ) ((y 2).val : ℕ)

/-- A block read past its unit axis. -/
theorem drop_unit (B : FVec Ideal S16x128x256 .f32) (a : Fin 16) (b : Fin 128) (o : Fin 256) :
    shapeCast S1x16x128x256 B shapeCasts_S16x128x256_S1x16x128x256 (ix4 0 a b o) = B (ix3 a b o) := by
  pointwise

/-- A point's block, at a pixel. -/
theorem outsAt_at (t : Fin cfg0.N) (a : Fin 16) (b : Fin 128) (o : Fin 256) :
    outsAt0 m c t (ix4 0 a b o)
      = conv (img m c) (offW m c) (offB m c) (convW m c) (imgOf t) o (rowOf t + a.val) b.val := by
  unfold outsAt0
  rw [out_block]
  refine (drop_unit _ a b o).trans (block_conv _ _ _ _ _ _ _ _ (staged m c t) a b o)

/-- What a point writes back is its block of the result. -/
theorem flushed_eq (t : Fin cfg0.N) :
    (dats m 0 c).flushed 4 t = (win0_4.blk t).view.read (Elt Ideal) (result m c) := by
  show (cfg0.win 4).cut (grid0.coords t) ((dats m 0 c).after 4 t) = _
  rw [after0_4]
  obtain ⟨-, -, -, -, ⟨h0, h1, h2, h3⟩⟩ := idx_facts t
  funext (y : S1x16x128x256.Idx)
  idx_vars y
  have hy : y0 = 0 := Subsingleton.elim _ _
  subst hy
  have e : (win0_4.blk t).view.emb (ix4 0 y1 y2 y3 : S1x16x128x256.Idx)
      = (ix4 (imgOf t) ⟨rowOf t + y1.val, by have := rowOf_le t; omega⟩ y2 y3 : S4x128x128x256.Idx) := by
    funext a
    apply Fin.ext
    fin_cases a
    · show win0_4.index t 0 * 1 + 1 * 0 = t.val / 8
      omega
    · show win0_4.index t 1 * 16 + 1 * y1.val = 16 * (t.val % 8) + y1.val
      omega
    · show win0_4.index t 2 * 128 + 1 * y2.val = y2.val
      omega
    · show win0_4.index t 3 * 256 + 1 * y3.val = y3.val
      omega
  show outsAt0 m c t (ix4 0 y1 y2 y3) = result m c ((win0_4.blk t).view.emb (ix4 0 y1 y2 y3 : S1x16x128x256.Idx))
  rw [e, outsAt_at]
  show _ = conv _ _ _ _ (imgOf t) y3 ((rowOf t + y1.val : ℕ) : ℤ) (y2.val : ℤ)
  rw [Nat.cast_add]

/-- The blocks tile the result. -/
theorem cover (i : S4x128x128x256.Idx) : ∃ t : Fin cfg0.N, (cfg0.win 4).flush t = true ∧ i ∈ ((cfg0.win 4).blk t).view.set := by
  have hi0 : (i 0).val < 4 := (i 0).isLt
  have hi1 : (i 1).val < 128 := (i 1).isLt
  have hi2 : (i 2).val < 128 := (i 2).isLt
  have hi3 : (i 3).val < 256 := (i 3).isLt
  have hN : cfg0.N = 32 := N_0
  refine ⟨⟨8 * (i 0).val + (i 1).val / 16, by omega⟩, flush0_4 _, ?_⟩
  generalize ht : (⟨8 * (i 0).val + (i 1).val / 16, _⟩ : Fin cfg0.N) = t
  have hv : t.val = 8 * (i 0).val + (i 1).val / 16 := by rw [← ht]
  obtain ⟨-, -, -, -, ⟨h0, h1, h2, h3⟩⟩ := idx_facts t
  show i ∈ ((View.whole main_call0_v7).slice (win0_4.rect t)).set
  rw [View.set_slice_whole, Rect.mem_set_unit]
  intro a
  fin_cases a
  · show win0_4.index t 0 * 1 ≤ (i 0).val ∧ (i 0).val < win0_4.index t 0 * 1 + 1
    omega
  · show win0_4.index t 1 * 16 ≤ (i 1).val ∧ (i 1).val < win0_4.index t 1 * 16 + 16
    omega
  · show win0_4.index t 2 * 128 ≤ (i 2).val ∧ (i 2).val < win0_4.index t 2 * 128 + 128
    omega
  · show win0_4.index t 3 * 256 ≤ (i 3).val ∧ (i 3).val < win0_4.index t 3 * 256 + 256
    omega

/-- The region's array ends holding the convolution. -/
theorem final_result : (dats m 0 c).arrAt 4 cfg0.N = result m c :=
  (dats m 0 c).arrAt_eq_of_cover 4 (result m c) (fun t _ => flushed_eq m c t) cover

/-- After the last transpose the result buffer holds the convolution, channels first. -/
theorem after_tail (n : Fin 4) (o : Fin 256) (h w : Fin 128) :
    (Pipeline.afterTail₀ cfgs (dats m) 0 (V0 m) [hostOps1] c main_v0 : S4x256x128x128.Idx → EReal) (ix4 n o h w)
      = conv (img m c) (offW m c) (offB m c) (convW m c) n o h.val w.val := by
  have e : (Pipeline.afterTail₀ cfgs (dats m) 0 (V0 m) [hostOps1] c main_v0 : S4x256x128x128.Idx → EReal)
      = transpose S4x256x128x128 [0, 3, 1, 2] (result m c) transposes_S4x128x128x256_S4x256x128x128_0_3_1_2 := by
    unfold Pipeline.afterTail₀
    dsimp only [hostOps1, List.flatten_cons, List.flatten_nil, List.append_nil, List.cons_append, List.nil_append]
    after_results
    refine congrArg (fun x => transpose S4x256x128x128 [0, 3, 1, 2] x transposes_S4x128x128x256_S4x256x128x128_0_3_1_2)
      (Eq.trans ?_ (final_result m c))
    exact Pipeline.withArrays_arr spec0 (by decide) c (V0 m c) (fun w => (dats m 0 c).arrAt w cfg0.N) 4
  rw [e]
  pointwise
  rfl

/-- The run: every execution ends with the result buffer at the convolution and the arguments unchanged. -/
theorem run (ρ : Dev nD → PrngReg) :
    θ_run defs (onTc (τ := τ) (main (F := Ideal))) ⟨m, fun _ => 0, ρ⟩ fun r => ∀ c : Dev nD,
      (∀ (n : Fin 4) (o : Fin 256) (h w : Fin 128),
        (r.2.mem ((c.tc : Thread nD τ).loc main_v0) : S4x256x128x128.Idx → EReal) (ix4 n o h w)
          = conv (img m c) (offW m c) (offB m c) (convW m c) n o h.val w.val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨fun n o y x =>
      (congrFun ((h.1 c).2 main_v0 (Pipeline.mem_restRefs_of main_v0 (by decide) (by decide))) (ix4 n o y x)).trans (after_tail m c n o y x), h.2 c⟩)
    (θ_run_and (run_main m ρ) (unchanged m ρ))

end Cert.KernelIdeal.Body

end
-- ==== Proof.Padded.lean ====
/- The image padded by one on each side, and the offset convolution as the sum of its nine shifted products. -/
module

public import proofs.«01_k».proof.Proof.Spec
public import Idealize.ShloMosaic.Lib.Pointwise

@[expose] public section

noncomputable section

namespace Cert.DeformConv

open Idealize.ShloMosaic

/-- The padded image's shape. -/
abbrev SPad : Shape := ⟨4, ![4, 256, 130, 130]⟩
/-- The image's shape. -/
abbrev SImg : Shape := ⟨4, ![4, 256, 128, 128]⟩
/-- A scalar's shape. -/
abbrev SOne : Shape := ⟨0, ![]⟩

/-- The padded image holds the image, one row and column in. -/
theorem pad_at (x : Img) (hp : SImg.Pads (![0, 0, 1, 1] : Fin 4 → Nat) ![0, 0, 1, 1] ![0, 0, 0, 0] SPad) (hs : 0 < SOne.numel)
    (n : Fin 4) (k : Fin 256) (r s : Fin 130) :
    pad SPad ![0, 0, 1, 1] ![0, 0, 1, 1] ![0, 0, 0, 0] x (constant (F := Ideal) SOne .f32 0x00000000#32) hp hs (ix4 n k r s)
      = px x n (r.val - 1) (s.val - 1) k := by
  pointwise
  unfold px
  by_cases h : (1 ≤ r.val ∧ r.val - 1 < 128) ∧ 1 ≤ s.val ∧ s.val - 1 < 128
  · rw [dif_pos h, dif_pos (by omega)]
    congr 2 <;> apply Fin.ext <;> simp only [] <;> omega
  · rw [dif_neg h, dif_neg (by omega)]

/-- The nine shifted products, added from the left, and the bias are the offset convolution. -/
theorem off_of_pad (x : Img) (wo : OffW) (bo : OffB) (P : SPad.Idx → EReal)
    (hP : ∀ (n : Fin 4) (k : Fin 256) (r s : Fin 130), P (ix4 n k r s) = px x n (r.val - 1) (s.val - 1) k)
    (n : Fin 4) (q : Fin 18) (h w : Fin 128) :
    (∑ c, P (ix4 n c ⟨h, by omega⟩ ⟨w, by omega⟩) * wo (ix4 q c 0 0))
        + (∑ c, P (ix4 n c ⟨h, by omega⟩ ⟨1 + w, by omega⟩) * wo (ix4 q c 0 1))
        + (∑ c, P (ix4 n c ⟨h, by omega⟩ ⟨2 + w, by omega⟩) * wo (ix4 q c 0 2))
        + (∑ c, P (ix4 n c ⟨1 + h, by omega⟩ ⟨w, by omega⟩) * wo (ix4 q c 1 0))
        + (∑ c, P (ix4 n c ⟨1 + h, by omega⟩ ⟨1 + w, by omega⟩) * wo (ix4 q c 1 1))
        + (∑ c, P (ix4 n c ⟨1 + h, by omega⟩ ⟨2 + w, by omega⟩) * wo (ix4 q c 1 2))
        + (∑ c, P (ix4 n c ⟨2 + h, by omega⟩ ⟨w, by omega⟩) * wo (ix4 q c 2 0))
        + (∑ c, P (ix4 n c ⟨2 + h, by omega⟩ ⟨1 + w, by omega⟩) * wo (ix4 q c 2 1))
        + (∑ c, P (ix4 n c ⟨2 + h, by omega⟩ ⟨2 + w, by omega⟩) * wo (ix4 q c 2 2))
        + bo (ix1 q)
      = off x wo bo n q h w := by
  have t : ∀ (i j : Fin 3) (r s : Fin 130), r.val = i.val + h.val → s.val = j.val + w.val →
      ∑ c, P (ix4 n c r s) * wo (ix4 q c i j) = ∑ c, px x n ((h.val : ℤ) + i.val - 1) ((w.val : ℤ) + j.val - 1) c * wo (ix4 q c i j) :=
    fun i j r s hr hs => Finset.sum_congr rfl fun c _ => by
      rw [hP, px_congr x n c (show (r.val : ℤ) - 1 = (h.val : ℤ) + i.val - 1 by omega) (show (s.val : ℤ) - 1 = (w.val : ℤ) + j.val - 1 by omega)]
  rw [t 0 0 _ _ (Nat.zero_add _).symm (Nat.zero_add _).symm, t 0 1 _ _ (Nat.zero_add _).symm rfl, t 0 2 _ _ (Nat.zero_add _).symm rfl,
    t 1 0 _ _ rfl (Nat.zero_add _).symm, t 1 1 _ _ rfl rfl, t 1 2 _ _ rfl rfl, t 2 0 _ _ rfl (Nat.zero_add _).symm, t 2 1 _ _ rfl rfl, t 2 2 _ _ rfl rfl]
  unfold off
  simp only [Fin.sum_univ_three, add_assoc]

end Cert.DeformConv

end
-- ==== Proof.RefGather.lean ====
module

public import proofs.«01_k».proof.Proof.Spec
public import proofs.«01_k».proof.Proof.Gen.ReferenceIdeal.Read
public import Idealize.ShloMosaic.Lib.Pointwise
public import Idealize.ShloMosaic.Lib.WordCmp

/-!
# The reference's gather

The reference reads a pixel through a gather: a table of three start indices per sampled point (image,
row, column), each clipped into the image, and a mask that is one where the point lies in the image
and zero elsewhere. This file reads that combination at an index: it is the pixel `px` of `Spec`, which
is zero outside the image.
-/

@[expose] public section

set_option maxRecDepth 16384

noncomputable section

namespace Cert.ReferenceIdeal.Conv

open Idealize.ShloMosaic Cert.DeformConv
open Cert.ReferenceIdeal Cert.ReferenceIdeal.Gen Cert.ReferenceIdeal.Read

/-! ## The gather at an index -/

/-- The gather of the reference: image, row and column come from the table, the channel from the
result's last coordinate. -/
abbrev G := gather_S4x128x128x256_S4x128x128x9x3_S4x128x128x9x256_4_012_n_n_012_4_111256

/-- The table entry that supplies component `b` of the start index. -/
theorem siIdx_at (n : Fin 4) (h w : Fin 128) (k : Fin 9) (c : Fin 256) (b : Fin 3) :
    G.siIdx (ix5 n h w k c) b = ix5 n h w k b := by
  funext t
  refine Fin.ext ?_
  match t with
  | ⟨0, _⟩ => rfl
  | ⟨1, _⟩ => rfl
  | ⟨2, _⟩ => rfl
  | ⟨3, _⟩ => rfl
  | ⟨4, _⟩ => rfl

/-- Along image, row and column the operand is read at the table's entry, clamped into the axis. -/
theorem start_at (idx : IVec S4x128x128x9x3 32) (n : Fin 4) (h w : Fin 128) (k : Fin 9) (c : Fin 256)
    (a : Fin 4) (b : Fin 3) (hab : b.val = a.val) :
    (G.operandIdx (ix5 n h w k c) idx a).val
      = min (idx (ix5 n h w k b)).toInt.toNat (S4x128x128x256.size a - 1) := by
  have mem : a ∈ G.startIndexMap := by
    revert a; decide +revert
  have mem' : a ∈ G.collapsedSliceDims := mem
  show G.start (ix5 n h w k c) idx a + G.batchCoord (ix5 n h w k c) a + G.offCoord (ix5 n h w k c) a = _
  rw [GatherDims.batchCoord_eq_zero _ _ _ List.not_mem_nil,
    GatherDims.offCoord_eq_zero _ _ _ (fun h => ((GatherDims.mem_sKept _ _).mp h).1 mem')]
  simp only [Nat.add_zero]
  unfold GatherDims.start
  rw [dif_pos mem]
  have e : (⟨List.idxOf a G.startIndexMap, List.idxOf_lt_length_iff.2 mem⟩ : Fin 3) = b := by
    apply Fin.ext
    rw [hab]
    show List.idxOf a [0, 1, 2] = _
    clear mem mem'; revert a; decide +revert
  have at_b := siIdx_at n h w k c b
  rw [← e] at at_b
  have one : G.sliceSizes a = 1 := by
    clear e at_b mem mem'; revert a; decide +revert
  rw [← e, ← at_b, one]
  rfl

/-- Along the channel the operand is read at the result's channel. -/
theorem chan_at (idx : IVec S4x128x128x9x3 32) (n : Fin 4) (h w : Fin 128) (k : Fin 9) (c : Fin 256) :
    (G.operandIdx (ix5 n h w k c) idx 3).val = c := by
  show G.start (ix5 n h w k c) idx 3 + G.batchCoord (ix5 n h w k c) 3 + G.offCoord (ix5 n h w k c) 3 = _
  rw [GatherDims.batchCoord_eq_zero _ _ _ List.not_mem_nil]
  unfold GatherDims.start
  rw [dif_neg (by decide +revert)]
  simp only [Nat.zero_add]
  rfl

/-- The gather read at an index. -/
theorem gather_at (x : S4x128x128x256.Idx → EReal) (idx : IVec S4x128x128x9x3 32)
    (n : Fin 4) (h w : Fin 128) (k : Fin 9) (c : Fin 256) :
    Host.gather G x idx (ix5 n h w k c)
      = x (ix4 ⟨min (idx (ix5 n h w k 0)).toInt.toNat 3, by omega⟩
          ⟨min (idx (ix5 n h w k 1)).toInt.toNat 127, by omega⟩
          ⟨min (idx (ix5 n h w k 2)).toInt.toNat 127, by omega⟩ c) := by
  unfold Host.gather
  congr 1
  funext a
  apply Fin.ext
  match a with
  | ⟨0, _⟩ => exact start_at idx n h w k c 0 0 rfl
  | ⟨1, _⟩ => exact start_at idx n h w k c 1 1 rfl
  | ⟨2, _⟩ => exact start_at idx n h w k c 2 2 rfl
  | ⟨3, _⟩ => exact chan_at idx n h w k c

/-! ## One corner -/

/-- Arrays of one word, and of one value, per image, row, column and tap. -/
abbrev Words := IVec S4x128x128x9 32

/-- The array that holds one word everywhere. -/
def splat (v : BitVec 32) : Words := broadcastInDim S4x128x128x9 ![] bcast_S_S4x128x128x9 (constantI S_ 32 v)

/-- Words clipped into `0 … 127`. -/
def clip (v : Words) : Words := minsi (splat 127#32) (maxsi (splat 0#32) v)

/-- Words with `k` added where they are negative. -/
def wrap (k : BitVec 32) (v : Words) : Words := select (cmpi .slt v (splat 0#32)) (addi v (splat k)) v

/-- The bit that says whether row and column both lie in `0 … 127`. -/
def inside (y x : Words) : IVec S4x128x128x9 1 :=
  andi (andi (andi (cmpi .sge y (splat 0#32)) (cmpi .slt y (splat 128#32))) (cmpi .sge x (splat 0#32)))
    (cmpi .slt x (splat 128#32))

/-- A word array as one column of the table. -/
def column (v : Words) : IVec S4x128x128x9x1 32 :=
  broadcastInDim S4x128x128x9x1 ![0, 1, 2, 3] bcast_S4x128x128x9_S4x128x128x9x1_0_1_2_3 v

/-- The table of start indices: image, clipped row, clipped column. -/
def table (y x : Words) : IVec S4x128x128x9x3 32 :=
  concatenate S4x128x128x9x3 4 [⟨S4x128x128x9x1, column (wrap 4#32 (iotaInDim S4x128x128x9 32 0))⟩,
    ⟨S4x128x128x9x1, column (wrap 128#32 (clip y))⟩, ⟨S4x128x128x9x1, column (wrap 128#32 (clip x))⟩]
    concatenates_S4x128x128x9x1_S4x128x128x9x1_S4x128x128x9x1_S4x128x128x9x3_d4

/-- An array repeated over the channels. -/
def spread {F : FTy → Type} (v : S4x128x128x9.Idx → F .f32) : S4x128x128x9x256.Idx → F .f32 :=
  broadcastInDim S4x128x128x9x256 ![0, 1, 2, 3, 4] bcast_S4x128x128x9x1_S4x128x128x9x256_0_1_2_3_4
    (broadcastInDim S4x128x128x9x1 ![0, 1, 2, 3] bcast_S4x128x128x9_S4x128x128x9x1_0_1_2_3 v)

/-- The pixels at rows `y` and columns `x`, zero outside the image. -/
def corner {F : FTy → Type} [FloatOps F] (img : S4x256x128x128.Idx → F .f32) (y x : Words) :
    S4x128x128x9x256.Idx → F .f32 :=
  mulf (Host.gather G (transpose S4x128x128x256 [0, 2, 3, 1] img transposes_S4x256x128x128_S4x128x128x256_0_2_3_1)
      (table y x))
    (spread (sitofp .f32 (extui 32 (inside y x) natLt_1_32)))

/-! ### Words -/

/-- A clipped word, as an integer. -/
theorem clipped_toInt (v : BitVec 32) :
    (IntOp.minsi 127#32 (IntOp.maxsi 0#32 v)).toInt = min 127 (max 0 v.toInt) := by
  have z : (0#32).toInt = 0 := rfl
  have t : (127#32).toInt = 127 := rfl
  simp only [IntOp.minsi, IntOp.maxsi, BitVec.slt, decide_eq_true_eq, z]
  split_ifs <;> omega

/-- A word that is not negative stays as it is when negative words are wrapped. -/
theorem wrapped_eq (u k : BitVec 32) (hu : 0 ≤ u.toInt) :
    Scalar.select (IntOp.cmpi .slt u 0#32) (IntOp.addi u k) u = u := by
  have z : (0#32).toInt = 0 := rfl
  rw [WordCmp.cmpi_slt_eq, z, decide_eq_false (by omega)]
  rfl

/-- The mask is one inside the image and zero outside. -/
theorem mask_word (y x : BitVec 32) :
    (FloatOps.sitofp FTy.f32 (BitVec.setWidth 32 (IntOp.andi (IntOp.andi (IntOp.andi (IntOp.cmpi .sge y 0#32)
        (IntOp.cmpi .slt y 128#32)) (IntOp.cmpi .sge x 0#32)) (IntOp.cmpi .slt x 128#32))) : Ideal .f32)
      = if (0 ≤ y.toInt ∧ y.toInt < 128) ∧ (0 ≤ x.toInt ∧ x.toInt < 128) then (1 : EReal) else 0 := by
  have z : (0#32).toInt = 0 := rfl
  have t : (128#32).toInt = 128 := rfl
  have one : (FloatOps.sitofp FTy.f32 1#32 : Ideal .f32) = (1 : EReal) := by
    show (((1#32 : BitVec 32).toInt : ℝ) : EReal) = 1
    norm_num
  have zero : (FloatOps.sitofp FTy.f32 0#32 : Ideal .f32) = (0 : EReal) := by
    show (((0#32 : BitVec 32).toInt : ℝ) : EReal) = 0
    norm_num
  simp only [WordCmp.cmpi_slt_eq, WordCmp.cmpi_sge_eq, z, t]
  by_cases a : 0 ≤ y.toInt <;> by_cases b : y.toInt < 128 <;> by_cases c : 0 ≤ x.toInt <;>
    by_cases d : x.toInt < 128 <;> simp only [a, b, c, d, decide_true, decide_false, and_true, and_false,
      true_and, false_and, if_true, if_false] <;> first | exact one | exact zero

/-! ### The corner at an index -/

/-- A repeated array at an index. -/
theorem spread_at (v : S4x128x128x9.Idx → EReal) (n : Fin 4) (h w : Fin 128) (k : Fin 9) (c : Fin 256) :
    spread (F := Ideal) v (ix5 n h w k c) = v (ix4 n h w k) := by
  pointwise [spread]

/-- The table's image. -/
theorem table_image (y x : Words) (n : Fin 4) (h w : Fin 128) (k : Fin 9) :
    (table y x (ix5 n h w k 0)).toInt.toNat = n.val := by
  have hn : (BitVec.ofNat 32 n.val).toInt = n.val := by revert n; decide
  pointwise [table, column, wrap, splat]
  rw [wrapped_eq _ _ (by omega), hn]
  rfl

/-- The table's row. -/
theorem table_row (y x : Words) (n : Fin 4) (h w : Fin 128) (k : Fin 9) :
    (table y x (ix5 n h w k 1)).toInt = min 127 (max 0 (y (ix4 n h w k)).toInt) := by
  pointwise [table, column, wrap, splat, clip]
  have hc := clipped_toInt (y (ix4 n h w k))
  rw [wrapped_eq _ _ (by omega), hc]

/-- The table's column. -/
theorem table_col (y x : Words) (n : Fin 4) (h w : Fin 128) (k : Fin 9) :
    (table y x (ix5 n h w k 2)).toInt = min 127 (max 0 (x (ix4 n h w k)).toInt) := by
  pointwise [table, column, wrap, splat, clip]
  have hc := clipped_toInt (x (ix4 n h w k))
  rw [wrapped_eq _ _ (by omega), hc]

/-- The image with its channels last, at an index. -/
theorem transposed_at (img : Img) (n : Fin 4) (r s : Fin 128) (c : Fin 256) :
    transpose S4x128x128x256 [0, 2, 3, 1] img transposes_S4x256x128x128_S4x128x128x256_0_2_3_1 (ix4 n r s c)
      = img (ix4 n c r s) := by
  pointwise []

/-- The pixel at clamped start indices times the mask is the pixel at the words themselves, zero outside
the image. -/
theorem masked_px (img : Img) (n : Fin 4) (c : Fin 256) (t0 t1 t2 Y X : BitVec 32) (i : t0.toInt.toNat = n.val)
    (r : t1.toInt = min 127 (max 0 Y.toInt)) (s : t2.toInt = min 127 (max 0 X.toInt)) :
    img (ix4 ⟨min t0.toInt.toNat 3, by omega⟩ c ⟨min t1.toInt.toNat 127, by omega⟩ ⟨min t2.toInt.toNat 127, by omega⟩)
        * (if (0 ≤ Y.toInt ∧ Y.toInt < 128) ∧ (0 ≤ X.toInt ∧ X.toInt < 128) then (1 : EReal) else 0)
      = px img n Y.toInt X.toInt c := by
  by_cases hb : (0 ≤ Y.toInt ∧ Y.toInt < 128) ∧ (0 ≤ X.toInt ∧ X.toInt < 128)
  · have e0 : (⟨min t0.toInt.toNat 3, by omega⟩ : Fin 4) = n := Fin.ext (by show min _ 3 = _; omega)
    have e1 : (⟨min t1.toInt.toNat 127, by omega⟩ : Fin 128) = ⟨Y.toInt.toNat, by omega⟩ :=
      Fin.ext (by show min _ 127 = Y.toInt.toNat; omega)
    have e2 : (⟨min t2.toInt.toNat 127, by omega⟩ : Fin 128) = ⟨X.toInt.toNat, by omega⟩ :=
      Fin.ext (by show min _ 127 = X.toInt.toNat; omega)
    rw [if_pos hb, mul_one, px, dif_pos hb, e0, e1, e2]
  · rw [if_neg hb, px, dif_neg hb]
    exact mul_zero _

/-- A corner at an index is the pixel at the two words, zero outside the image. -/
theorem corner_at (img : Img) (y x : Words) (n : Fin 4) (h w : Fin 128) (k : Fin 9) (c : Fin 256) :
    corner (F := Ideal) img y x (ix5 n h w k c)
      = px img n (y (ix4 n h w k)).toInt (x (ix4 n h w k)).toInt c := by
  have e : corner (F := Ideal) img y x (ix5 n h w k c)
      = Host.gather G (transpose S4x128x128x256 [0, 2, 3, 1] img transposes_S4x256x128x128_S4x128x128x256_0_2_3_1)
          (table y x) (ix5 n h w k c)
        * spread (F := Ideal) (sitofp .f32 (extui 32 (inside y x) natLt_1_32)) (ix5 n h w k c) := rfl
  have m : sitofp (F := Ideal) .f32 (extui 32 (inside y x) natLt_1_32) (ix4 n h w k)
      = if (0 ≤ (y (ix4 n h w k)).toInt ∧ (y (ix4 n h w k)).toInt < 128)
          ∧ (0 ≤ (x (ix4 n h w k)).toInt ∧ (x (ix4 n h w k)).toInt < 128) then (1 : EReal) else 0 := by
    pointwise [inside, splat]
    exact mask_word _ _
  have r := table_row y x n h w k
  have s := table_col y x n h w k
  have i := table_image y x n h w k
  have g := (gather_at (transpose S4x128x128x256 [0, 2, 3, 1] img transposes_S4x256x128x128_S4x128x128x256_0_2_3_1)
    (table y x) n h w k c).trans (transposed_at img _ _ _ c)
  rw [e, spread_at, m, g]
  exact masked_px img n c _ _ _ _ _ i r s

/-! ### The four corners of the reference -/

section Corners
variable {F : FTy → Type} [FloatOps F] (x0 : S4x256x128x128.Idx → F .f32) (x1 : S18x256x3x3.Idx → F .f32)
  (x2 : S18.Idx → F .f32)

/-- The pixel at the point's own row and column. -/
theorem v134_eq : val_main_v134 x0 x1 x2 = corner x0 (val_main_v89 x0 x1 x2) (val_main_v90 x0 x1 x2) := rfl

/-- The pixel one column on. -/
theorem v178_eq : val_main_v178 x0 x1 x2
    = corner x0 (val_main_v89 x0 x1 x2) (addi (val_main_v90 x0 x1 x2) (splat 1#32)) := rfl

/-- The pixel one row on. -/
theorem v223_eq : val_main_v223 x0 x1 x2
    = corner x0 (addi (val_main_v89 x0 x1 x2) (splat 1#32)) (val_main_v90 x0 x1 x2) := rfl

/-- The pixel one row and one column on. -/
theorem v270_eq : val_main_v270 x0 x1 x2
    = corner x0 (addi (val_main_v89 x0 x1 x2) (splat 1#32)) (addi (val_main_v90 x0 x1 x2) (splat 1#32)) := rfl

end Corners

end Cert.ReferenceIdeal.Conv

end
-- ==== Proof.Bilinear.lean ====
module

public import proofs.«01_k».proof.Proof.Spec

/-!
# Bilinear interpolation

For a real offset between -2 and 3 the sample of `Spec`, written with hat weights over a window of
six by six pixels, is bilinear interpolation between the four pixels around the sampled point.
Nothing here distributes a product over a sum, so the pixels may take any value, infinite ones
included.
-/

@[expose] public section

noncomputable section

namespace Cert.DeformConv

open Idealize.ShloMosaic

/-- The hat of height one around the lattice point `z`, on reals. -/
def hatR (d : ℝ) (z : ℤ) : ℝ := max (1 - |d - z|) 0

/-- The hat weight of a real offset is the real hat at the window's lattice point. -/
theorem hatW_coe (d : ℝ) (u : Fin 6) : hatW (d : EReal) u = (hatR d ((u.val : ℤ) - 2) : EReal) := by
  unfold hatW hatR
  have cmax : ∀ a b : ℝ, ((max a b : ℝ) : EReal) = max (a : EReal) b := fun a b =>
    EReal.coe_strictMono.monotone.map_max
  rw [abs_eq_max_neg, cmax, EReal.coe_sub, cmax, EReal.coe_neg, EReal.coe_sub, EReal.coe_one,
    EReal.coe_zero]

/-- At the lattice point below the offset the hat is one minus the fraction. -/
theorem hatR_floor (d : ℝ) : hatR d ⌊d⌋ = 1 - (d - ⌊d⌋) := by
  have h0 := Int.floor_le d
  have h1 := Int.lt_floor_add_one d
  unfold hatR
  rw [abs_of_nonneg (by linarith), max_eq_left (by linarith)]

/-- At the lattice point above the offset the hat is the fraction. -/
theorem hatR_floor_succ (d : ℝ) : hatR d (⌊d⌋ + 1) = d - ⌊d⌋ := by
  have h0 := Int.floor_le d
  have h1 := Int.lt_floor_add_one d
  unfold hatR
  push_cast
  rw [abs_of_nonpos (by linarith), max_eq_left (by linarith)]
  ring

/-- At every other lattice point the hat is zero. -/
theorem hatR_far (d : ℝ) (z : ℤ) (hz : z < ⌊d⌋ ∨ ⌊d⌋ + 1 < z) : hatR d z = 0 := by
  have h0 := Int.floor_le d
  have h1 := Int.lt_floor_add_one d
  unfold hatR
  apply max_eq_right
  rcases hz with hz | hz
  · have : (z : ℝ) + 1 ≤ ⌊d⌋ := by exact_mod_cast hz
    rw [abs_of_nonneg (by linarith)]; linarith
  · have : (⌊d⌋ : ℝ) + 1 + 1 ≤ z := by exact_mod_cast hz
    rw [abs_of_nonpos (by linarith)]; linarith

/-- A sum over the six lattice points of the window, whose terms depend on the hat weight and vanish
with it, keeps the two terms next to the offset. -/
theorem sum_hat (d : ℝ) (hlo : -2 ≤ d) (hhi : d ≤ 3) (g : ℤ → EReal → EReal) (g0 : ∀ z, g z 0 = 0) :
    ∑ u : Fin 6, g ((u.val : ℤ) - 2) (hatW (d : EReal) u)
      = g ⌊d⌋ ((1 - (d - ⌊d⌋) : ℝ) : EReal) + g (⌊d⌋ + 1) ((d - ⌊d⌋ : ℝ) : EReal) := by
  simp only [hatW_coe]
  rw [← hatR_floor, ← hatR_floor_succ]
  have far : ∀ z : ℤ, z < ⌊d⌋ ∨ ⌊d⌋ + 1 < z → g z (hatR d z : EReal) = 0 := fun z hz => by
    rw [hatR_far d z hz, EReal.coe_zero, g0]
  have end4 : ⌊d⌋ = 3 → g 4 (hatR d 4 : EReal) = 0 := fun h => by
    have h3 : d = 3 := le_antisymm hhi (by have := Int.floor_le d; rw [h] at this; exact_mod_cast this)
    have : hatR d 4 = 0 := by rw [h3]; norm_num [hatR]
    rw [this, EReal.coe_zero, g0]
  have hl : -2 ≤ ⌊d⌋ := Int.le_floor.mpr (by exact_mod_cast hlo)
  have hh : ⌊d⌋ ≤ 3 := Int.floor_le_iff.mpr (by push_cast; linarith)
  generalize ⌊d⌋ = z at *
  rw [Fin.sum_univ_six]
  interval_cases z <;> simp [far, end4]

/-- The sample at real offsets within reach: the four pixels around the sampled point, each weighed
by the product of a vertical and a horizontal share. -/
theorem sample_bilinear (x : Img) (n : Fin 4) (r s : ℤ) (dy dx : ℝ) (c : Fin 256)
    (hy : -2 ≤ dy ∧ dy ≤ 3) (hx : -2 ≤ dx ∧ dx ≤ 3) :
    sample x n r s (dy : EReal) (dx : EReal) c
      = ((px x n (r + ⌊dy⌋) (s + ⌊dx⌋) c * (((1 - (dy - ⌊dy⌋) : ℝ) : EReal) * ((1 - (dx - ⌊dx⌋) : ℝ) : EReal))
        + px x n (r + ⌊dy⌋) (s + ⌊dx⌋ + 1) c * (((1 - (dy - ⌊dy⌋) : ℝ) : EReal) * ((dx - ⌊dx⌋ : ℝ) : EReal)))
        + px x n (r + ⌊dy⌋ + 1) (s + ⌊dx⌋) c * (((dy - ⌊dy⌋ : ℝ) : EReal) * ((1 - (dx - ⌊dx⌋) : ℝ) : EReal)))
        + px x n (r + ⌊dy⌋ + 1) (s + ⌊dx⌋ + 1) c * (((dy - ⌊dy⌋ : ℝ) : EReal) * ((dx - ⌊dx⌋ : ℝ) : EReal)) := by
  have inner : ∀ (z : ℤ) (t : EReal),
      ∑ v : Fin 6, t * hatW (dx : EReal) v * px x n (r + z) (s + ((v.val : ℤ) - 2)) c
        = t * ((1 - (dx - ⌊dx⌋) : ℝ) : EReal) * px x n (r + z) (s + ⌊dx⌋) c
          + t * ((dx - ⌊dx⌋ : ℝ) : EReal) * px x n (r + z) (s + (⌊dx⌋ + 1)) c := fun z t =>
    sum_hat dx hx.1 hx.2 (fun v e => t * e * px x n (r + z) (s + v) c) (fun v => by simp)
  have outer := sum_hat dy hy.1 hy.2
    (fun u e => ∑ v : Fin 6, e * hatW (dx : EReal) v * px x n (r + u) (s + ((v.val : ℤ) - 2)) c)
    (fun u => by simp)
  simp only [inner] at outer
  simp only [sample, add_sub_assoc, inner]
  rw [outer]
  simp only [add_assoc, mul_comm (px _ _ _ _ _)]

end Cert.DeformConv

end
-- ==== Proof.RefPoint.lean ====
module

public import proofs.«01_k».proof.Proof.Bilinear
public import Idealize.ShloMosaic.Lib.Pointwise

/-!
# The sampled point along one axis

A sampled point lies at a whole coordinate plus a real offset. Its floor, the fraction above the floor,
and the floor as a word are read off here once for both axes.
-/

@[expose] public section

noncomputable section

namespace Cert.DeformConv

open Idealize.ShloMosaic

/-- A small number as a word, converted to a float. -/
theorem sitofp_ofNat (a : ℕ) (ha : a < 2 ^ 31) :
    (FloatOps.sitofp FTy.f32 (BitVec.ofNat 32 a) : Ideal .f32) = ((a : ℝ) : EReal) := by
  have e : (BitVec.ofNat 32 a).toInt = a := by
    rw [BitVec.toInt_eq_toNat_cond, BitVec.toNat_ofNat]; omega
  show (((BitVec.ofNat 32 a).toInt : ℝ) : EReal) = _
  rw [e]
  norm_num

/-- The whole coordinate of a tap: the pixel's coordinate, less one, plus the tap's. -/
theorem base_eq (a b : ℕ) (ha : a < 128) (hb : b < 3) :
    (FloatOps.sitofp FTy.f32 (BitVec.ofNat 32 a) : Ideal .f32) - 1 + FloatOps.sitofp FTy.f32 (BitVec.ofNat 32 b)
      = (((a + b - 1 : ℤ) : ℝ) : EReal) := by
  rw [sitofp_ofNat a (by omega), sitofp_ofNat b (by omega)]
  show ((a : ℝ) : EReal) - ((1 : ℝ) : EReal) + ((b : ℝ) : EReal) = _
  rw [← EReal.coe_sub, ← EReal.coe_add]
  congr 1
  push_cast
  ring

section Point
variable (r : ℤ) (d : ℝ)

/-- The floor of the point. -/
theorem floor_eq : Ideal.liftRound Int.floor ((((r : ℝ) : EReal)) + (d : EReal)) = (((r + ⌊d⌋ : ℤ) : ℝ) : EReal) := by
  rw [← EReal.coe_add, Ideal.liftRound_coe, Int.floor_intCast_add]

/-- The fraction above the floor does not depend on the whole coordinate. -/
theorem fract_eq :
    ((r : ℝ) : EReal) + (d : EReal) - Ideal.liftRound Int.floor ((((r : ℝ) : EReal)) + (d : EReal))
      = ((d - ⌊d⌋ : ℝ) : EReal) := by
  rw [floor_eq, ← EReal.coe_add, ← EReal.coe_sub]
  congr 1
  push_cast
  ring

/-- One minus the fraction. -/
theorem cofract_eq : (1 : EReal) - ((d - ⌊d⌋ : ℝ) : EReal) = ((1 - (d - ⌊d⌋) : ℝ) : EReal) := by
  rw [EReal.coe_sub 1, EReal.coe_one]

/-- A whole number of word size, converted to a word and read back. -/
theorem fptosi_toInt (z : ℤ) (hz : -1000 < z ∧ z < 1000) : (Ideal.fptosi 32 ((z : ℝ) : EReal)).toInt = z := by
  rw [Ideal.fptosi, Ideal.toIntClamped_coe, Int.floor_intCast, Int.ceil_intCast, ite_self, BitVec.toInt_ofInt]
  norm_num [Int.bmod]
  omega

/-- One more, as words. -/
theorem addi_one_toInt (v : BitVec 32) (hv : -1000 < v.toInt ∧ v.toInt < 1000) :
    (IntOp.addi v 1#32).toInt = v.toInt + 1 := by
  show (v + 1#32).toInt = _
  rw [BitVec.toInt_add]
  have : (1#32).toInt = 1 := rfl
  rw [this, Int.bmod]
  omega

end Point

end Cert.DeformConv

end
-- ==== Proof.RefValue.lean ====
module

public import proofs.«01_k».proof.Proof.Padded
public import proofs.«01_k».proof.Proof.RefGather
public import proofs.«01_k».proof.Proof.RefPoint

/-!
# The value of the reference

The reference's offsets, the coordinates of its sampled points, its patches and its result, each read at
an index. Where every offset lies between -2 and 3 the result is `conv` of `Spec`.
-/

@[expose] public section

set_option maxRecDepth 16384

noncomputable section

namespace Cert.ReferenceIdeal.Conv

open Idealize.ShloMosaic Cert.DeformConv
open Cert.ReferenceIdeal Cert.ReferenceIdeal.Gen Cert.ReferenceIdeal.Read

variable (x : Img) (wo : OffW) (bo : OffB) (wc : ConvW) (n : Fin 4) (h w : Fin 128)

/-! ## Offsets -/

/-- The reference's offset planes. -/
theorem off_at (q : Fin 18) : val_main_v47 (F := Ideal) x wo bo (ix4 n q h w) = off x wo bo n q h w := by
  have hp := pad_at x pads_S4x256x128x128_S4x256x130x130_000_000_110_110 h_S_
  have e : val_main_v0 (F := Ideal) x = pad S4x256x130x130 ![0, 0, 1, 1] ![0, 0, 1, 1] ![0, 0, 0, 0] x
    (constant (F := Ideal) S_ .f32 0x00000000#32) pads_S4x256x128x128_S4x256x130x130_000_000_110_110 h_S_ := rfl
  rw [← e] at hp
  generalize hP : val_main_v0 (F := Ideal) x = P at hp
  rw [← off_of_pad x wo bo P hp]
  pointwise [val_main_v47, val_main_v46, val_main_v45, val_main_v44, val_main_v43, val_main_v42, val_main_v41,
    val_main_v40, val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v6, val_main_v5, val_main_v4, val_main_v3, val_main_v2, val_main_v1, hP]

/-- The vertical offset of a tap. -/
theorem offY_at (i j : Fin 3) :
    val_main_v51 (F := Ideal) x wo bo (ix4 n h w ⟨tap i j, tap_lt i j⟩) = offY x wo bo n i j h w := by
  pointwise [val_main_v51, val_main_v50, val_main_v49, val_main_v48]
  rw [off_at]
  unfold offY
  congr 2
  exact Nat.mul_comm _ _

/-- The horizontal offset of a tap. -/
theorem offX_at (i j : Fin 3) :
    val_main_v54 (F := Ideal) x wo bo (ix4 n h w ⟨tap i j, tap_lt i j⟩) = offX x wo bo n i j h w := by
  pointwise [val_main_v54, val_main_v53, val_main_v52, val_main_v48]
  rw [off_at]
  unfold offX
  congr 2
  exact congrArg (· + 1) (Nat.mul_comm _ _)

/-! ## Sampled points -/

/-- The row of a sampled point: a whole row plus the vertical offset. -/
theorem pointY_at (i j : Fin 3) :
    val_main_v81 (F := Ideal) x wo bo (ix4 n h w ⟨tap i j, tap_lt i j⟩)
      = (((h.val + i.val - 1 : ℤ) : ℝ) : EReal) + offY x wo bo n i j h w := by
  have d : val_main_v81 (F := Ideal) x wo bo (ix4 n h w ⟨tap i j, tap_lt i j⟩)
    = val_main_v80 (F := Ideal) (ix4 n h w ⟨tap i j, tap_lt i j⟩)
      + val_main_v51 (F := Ideal) x wo bo (ix4 n h w ⟨tap i j, tap_lt i j⟩) := rfl
  rw [d, offY_at, ← base_eq h.val i.val h.isLt i.isLt]
  congr 1
  pointwise [val_main_v80, val_main_v79, val_main_v73, val_main_v72, val_main_v71, val_main_v70, val_main_v69,
    val_main_v59, val_main_v63, val_main_v64, val_main_v62, val_main_v61, val_main_v57, val_main_v56, val_main_v55,
    val_main_cst_0]
  have t : tap i j / 3 = i.val := congrArg Fin.val (tap_div i j (h := by have := tap_lt i j; omega))
  rw [t]

/-- The column of a sampled point: a whole column plus the horizontal offset. -/
theorem pointX_at (i j : Fin 3) :
    val_main_v84 (F := Ideal) x wo bo (ix4 n h w ⟨tap i j, tap_lt i j⟩)
      = (((w.val + j.val - 1 : ℤ) : ℝ) : EReal) + offX x wo bo n i j h w := by
  have d : val_main_v84 (F := Ideal) x wo bo (ix4 n h w ⟨tap i j, tap_lt i j⟩)
    = val_main_v83 (F := Ideal) (ix4 n h w ⟨tap i j, tap_lt i j⟩)
      + val_main_v54 (F := Ideal) x wo bo (ix4 n h w ⟨tap i j, tap_lt i j⟩) := rfl
  rw [d, offX_at, ← base_eq w.val j.val w.isLt j.isLt]
  congr 1
  pointwise [val_main_v83, val_main_v82, val_main_v78, val_main_v77, val_main_v76, val_main_v75, val_main_v74,
    val_main_v60, val_main_v68, val_main_v66, val_main_v67, val_main_v58, val_main_v56, val_main_v55, val_main_v65,
    val_main_cst_1]
  have t : tap i j % 3 = j.val := congrArg Fin.val (tap_mod i j (h := by have := tap_lt i j; omega))
  rw [t]

/-! ## Patches -/

/-- The patch at an index, from the four corners and the sampled point. -/
theorem blend_at (k : Fin 9) (c : Fin 256) :
    val_main_v275 (F := Ideal) x wo bo (ix5 n h w k c)
      = (let y := val_main_v81 (F := Ideal) x wo bo (ix4 n h w k)
         let s := val_main_v84 (F := Ideal) x wo bo (ix4 n h w k)
         let fy := y - Ideal.liftRound Int.floor y
         let fx := s - Ideal.liftRound Int.floor s
         val_main_v134 (F := Ideal) x wo bo (ix5 n h w k c) * ((1 - fy) * (1 - fx))
          + val_main_v178 (F := Ideal) x wo bo (ix5 n h w k c) * ((1 - fy) * fx)
          + val_main_v223 (F := Ideal) x wo bo (ix5 n h w k c) * (fy * (1 - fx))
          + val_main_v270 (F := Ideal) x wo bo (ix5 n h w k c) * (fy * fx)) := by
  dsimp only
  generalize hA : val_main_v134 (F := Ideal) x wo bo = A
  generalize hB : val_main_v178 (F := Ideal) x wo bo = B
  generalize hC : val_main_v223 (F := Ideal) x wo bo = C
  generalize hD : val_main_v270 (F := Ideal) x wo bo = D
  generalize hy : val_main_v81 (F := Ideal) x wo bo = y
  generalize hx : val_main_v84 (F := Ideal) x wo bo = s
  pointwise [val_main_v275, val_main_v228, val_main_v183, val_main_v274, val_main_v227, val_main_v182, val_main_v138,
    val_main_v137, val_main_v136, val_main_v135, val_main_v181, val_main_v180, val_main_v179, val_main_v226,
    val_main_v225, val_main_v224, val_main_v273, val_main_v272, val_main_v271, val_main_v94, val_main_v96, val_main_v91,
    val_main_v92, val_main_v93, val_main_v95, val_main_cst_2, val_main_cst_3, val_main_v87, val_main_v88, hA, hB, hC,
    hD, hy, hx]

/-- The word of a sampled point's row. -/
theorem wordY_at (k : Fin 9) :
    val_main_v89 (F := Ideal) x wo bo (ix4 n h w k)
      = Ideal.fptosi 32 (Ideal.liftRound Int.floor (val_main_v81 (F := Ideal) x wo bo (ix4 n h w k))) := by
  rw [val_main_v89_apply, val_main_v87_apply]
  rfl

/-- The word of a sampled point's column. -/
theorem wordX_at (k : Fin 9) :
    val_main_v90 (F := Ideal) x wo bo (ix4 n h w k)
      = Ideal.fptosi 32 (Ideal.liftRound Int.floor (val_main_v84 (F := Ideal) x wo bo (ix4 n h w k))) := by
  rw [val_main_v90_apply, val_main_v88_apply]
  rfl

/-- Words plus one, at an index. -/
theorem next_at (v : Words) (k : Fin 9) : addi v (splat 1#32) (ix4 n h w k) = IntOp.addi (v (ix4 n h w k)) 1#32 := by
  pointwise [splat]

/-- A value between two reals is a real between them. -/
theorem real_between (a : EReal) (ha : ((-2 : ℝ) : EReal) ≤ a ∧ a ≤ ((3 : ℝ) : EReal)) :
    ∃ d : ℝ, a = (d : EReal) ∧ -2 ≤ d ∧ d ≤ 3 := by
  induction a with
  | bot => exact absurd ha.1 (by simp)
  | top => exact absurd ha.2 (by simp)
  | coe d => exact ⟨d, rfl, EReal.coe_le_coe_iff.mp ha.1, EReal.coe_le_coe_iff.mp ha.2⟩

/-- Every offset lies within reach of the window. -/
def InReach : Prop := ∀ (n : Fin 4) (q : Fin 18) (h w : Fin 128),
  ((-2 : ℝ) : EReal) ≤ off x wo bo n q h w ∧ off x wo bo n q h w ≤ ((3 : ℝ) : EReal)

/-- The patch at a tap is the sample of `Spec`. -/
theorem patch_at (hr : InReach x wo bo) (i j : Fin 3) (c : Fin 256) :
    val_main_v275 (F := Ideal) x wo bo (ix5 n h w ⟨tap i j, tap_lt i j⟩ c)
      = sample x n (h.val + i.val - 1) (w.val + j.val - 1) (offY x wo bo n i j h w) (offX x wo bo n i j h w) c := by
  obtain ⟨dy, ey, hy⟩ := real_between (offY x wo bo n i j h w) (hr n _ h w)
  obtain ⟨dx, ex, hx⟩ := real_between (offX x wo bo n i j h w) (hr n _ h w)
  have hly : -2 ≤ ⌊dy⌋ := Int.le_floor.mpr (by exact_mod_cast hy.1)
  have hhy : ⌊dy⌋ ≤ 3 := Int.floor_le_iff.mpr (by push_cast; linarith [hy.2])
  have hlx : -2 ≤ ⌊dx⌋ := Int.le_floor.mpr (by exact_mod_cast hx.1)
  have hhx : ⌊dx⌋ ≤ 3 := Int.floor_le_iff.mpr (by push_cast; linarith [hx.2])
  have py := pointY_at x wo bo n h w i j
  have px' := pointX_at x wo bo n h w i j
  rw [ey] at py
  rw [ex] at px'
  have wy : (val_main_v89 (F := Ideal) x wo bo (ix4 n h w ⟨tap i j, tap_lt i j⟩)).toInt = h.val + i.val - 1 + ⌊dy⌋ := by
    rw [wordY_at, py, floor_eq, fptosi_toInt _ (by omega)]
  have wx : (val_main_v90 (F := Ideal) x wo bo (ix4 n h w ⟨tap i j, tap_lt i j⟩)).toInt = w.val + j.val - 1 + ⌊dx⌋ := by
    rw [wordX_at, px', floor_eq, fptosi_toInt _ (by omega)]
  rw [blend_at, v134_eq, v178_eq, v223_eq, v270_eq]
  simp only [corner_at, next_at]
  rw [addi_one_toInt _ (by omega), addi_one_toInt _ (by omega), wy, wx, py, px', fract_eq, fract_eq, cofract_eq, cofract_eq,
    ey, ex, sample_bilinear x n _ _ dy dx c hy hx]

/-! ## The result -/

/-- The nine taps, row by row. -/
theorem sum_taps (f : Fin 9 → EReal) : ∑ k, f k = ∑ i : Fin 3, ∑ j : Fin 3, f ⟨tap i j, tap_lt i j⟩ := by
  simp only [Fin.sum_univ_three, Fin.sum_univ_succ (n := 8), Fin.sum_univ_eight, ← add_assoc]
  rfl

/-- The reference's result at an index, from the patches. -/
theorem result_at (o : Fin 256) :
    val_main_v278 (F := Ideal) x wo bo wc (ix4 n o h w)
      = ∑ c : Fin 256, ∑ k : Fin 9, wc (ix4 o c ⟨k.val / 3, by omega⟩ ⟨k.val % 3, by omega⟩)
          * val_main_v275 (F := Ideal) x wo bo (ix5 n h w k c) := by
  generalize hP : val_main_v275 (F := Ideal) x wo bo = P
  pointwise [val_main_v278, val_main_v277, val_main_v276, hP]

/-- Where every offset is within reach the reference computes the convolution of `Spec`. -/
theorem result_conv (hr : InReach x wo bo) (o : Fin 256) :
    val_main_v278 (F := Ideal) x wo bo wc (ix4 n o h w) = conv x wo bo wc n o h w := by
  rw [result_at, Finset.sum_comm, sum_taps]
  unfold conv
  refine Finset.sum_congr rfl fun i _ => Finset.sum_congr rfl fun j _ => Finset.sum_congr rfl fun c _ => ?_
  rw [patch_at x wo bo n h w hr, tap_div i j, tap_mod i j, mul_comm]

end Cert.ReferenceIdeal.Conv

end
-- ==== Proof.RefRun.lean ====
module

public import proofs.«01_k».proof.Proof.RefValue
public import proofs.«01_k».proof.Proof.Gen.ReferenceIdeal.Run
public import Idealize.ShloMosaic.Lib.Quiescent

/-!
# The run of the reference

Every run of the reference ends with its arguments unchanged and every counter at zero, and, where every
offset is within reach, with the convolution of `Spec` in its result.
-/

@[expose] public section

noncomputable section

namespace Cert.ReferenceIdeal.Conv

open Idealize.ShloMosaic Idealize.ShloMosaic.TcCoe Idealize.SL.Sem Cert.DeformConv
open Cert.ReferenceIdeal Cert.ReferenceIdeal.Gen

variable (m : (ℓ : Loc nD τ sig) → Buf (Elt Ideal) ℓ) (g : Dev nD → PrngReg)

/-- The arguments are unchanged and the counters are at zero; the reference declares no semaphore. -/
theorem frame : θ_run (defs (F := Ideal)) (onTc (τ := τ) (main (F := Ideal))) ⟨m, fun _ => 0, g⟩ fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run _ _ _).mono (fun r hr => ⟨fun c => (hr c).2, sem_eq_zero_of_no_sems (by decide) r.2⟩)
    (Cert.ReferenceIdeal.Value.run m g)

/-- Where every offset is within reach the result is the convolution of `Spec`. -/
theorem run (x : (c : Dev nD) → Img) (wo : (c : Dev nD) → OffW) (bo : (c : Dev nD) → OffB) (wc : (c : Dev nD) → ConvW)
    (ha : ∀ c : Dev nD, m ((c.tc : Thread nD τ).loc main_arg0) = x c ∧ m ((c.tc : Thread nD τ).loc main_arg1) = wo c
      ∧ m ((c.tc : Thread nD τ).loc main_arg2) = bo c ∧ m ((c.tc : Thread nD τ).loc main_arg3) = wc c)
    (hr : ∀ c, InReach (x c) (wo c) (bo c)) :
    θ_run (defs (F := Ideal)) (onTc (τ := τ) (main (F := Ideal))) ⟨m, fun _ => 0, g⟩ fun r => ∀ c : Dev nD,
      (∀ (n : Fin 4) (o : Fin 256) (h w : Fin 128),
        (r.2.mem ((c.tc : Thread nD τ).loc main_v278) : S4x256x128x128.Idx → EReal) (ix4 n o h w)
          = conv (x c) (wo c) (bo c) (wc c) n o h.val w.val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨fun n o i j => by
      have e := (h c).1.trans (Cert.ReferenceIdeal.Read.val_main_v278_eq (F := Ideal) (StableHlo.launchContents m c))
      have a0 : StableHlo.launchContents m c (Proc.devRef .tc main_arg0) = x c := (ha c).1
      have a1 : StableHlo.launchContents m c (Proc.devRef .tc main_arg1) = wo c := (ha c).2.1
      have a2 : StableHlo.launchContents m c (Proc.devRef .tc main_arg2) = bo c := (ha c).2.2.1
      have a3 : StableHlo.launchContents m c (Proc.devRef .tc main_arg3) = wc c := (ha c).2.2.2
      rw [e, a0, a1, a2, a3]
      exact result_conv (x c) (wo c) (bo c) (wc c) n i j (hr c) o, (h c).2⟩)
    (Cert.ReferenceIdeal.Value.run m g)

end Cert.ReferenceIdeal.Conv

end
-- ==== Proof.Reach.lean ====
/- The precondition at an index: every offset lies between minus two and three. -/
module

public import proofs.«01_k».proof.Proof.Padded
public import proofs.«01_k».proof.Pre_offsets_in_reach

@[expose] public section

set_option maxRecDepth 16384

noncomputable section

namespace Cert.Pre_offsets_in_reach

open Idealize.ShloMosaic Cert.DeformConv
open Facts

variable [Facts]

/-- The lower bound's word. -/
theorem ofBits_neg_two : Ideal.ofBits .f32 0xC0000000#32 = ((-2 : ℝ) : EReal) := by
  simp [Ideal.ofBits, Ideal.ieee, -EReal.coe_mul, -EReal.coe_neg]; norm_num

/-- The upper bound's word. -/
theorem ofBits_three : Ideal.ofBits .f32 0x40400000#32 = ((3 : ℝ) : EReal) := by
  simp [Ideal.ofBits, Ideal.ieee, -EReal.coe_mul, -EReal.coe_neg]; norm_num

/-- Where the predicate is set the offset lies in `[-2, 3]`. -/
theorem fn_at (x : Img) (wo : OffW) (bo : OffB) (wc : ConvW) (n : Fin 4) (q : Fin 18) (h w : Fin 128)
    (H : fn (F := Ideal) x wo bo wc (ix4 n q h w) = 1#1) :
    ((-2 : ℝ) : EReal) ≤ off x wo bo n q h w ∧ off x wo bo n q h w ≤ ((3 : ℝ) : EReal) := by
  revert H
  unfold fn
  dsimp only
  have hp := pad_at x pads_S4x256x128x128_S4x256x130x130_000_000_110_110 h_S_
  generalize pad S4x256x130x130 ![0, 0, 1, 1] ![0, 0, 1, 1] ![0, 0, 0, 0] x (constant (F := Ideal) S_ .f32 0x00000000#32)
    pads_S4x256x128x128_S4x256x130x130_000_000_110_110 h_S_ = P at hp ⊢
  pointwise [fn_part1, fn_part2]
  rw [off_of_pad x wo bo P hp, ofBits_neg_two, ofBits_three]
  by_cases h1 : ((-2 : ℝ) : EReal) ≤ off x wo bo n q h w
  · by_cases h2 : off x wo bo n q h w ≤ ((3 : ℝ) : EReal)
    · exact fun _ => ⟨h1, h2⟩
    · rw [decide_eq_false h2, decide_eq_true h1]
      exact fun e => absurd e (by decide)
  · rw [decide_eq_false h1]
    by_cases h2 : off x wo bo n q h w ≤ ((3 : ℝ) : EReal)
    · rw [decide_eq_true h2]
      exact fun e => absurd e (by decide)
    · rw [decide_eq_false h2]
      exact fun e => absurd e (by decide)

end Cert.Pre_offsets_in_reach

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Pre_offsets_in_reach
public import proofs.«01_k».proof.Proof.KernelArray
public import proofs.«01_k».proof.Proof.RefRun
public import proofs.«01_k».proof.Proof.Reach

/-!
# The certificate

The frames of the kernel, of its idealization and of the reference, and the equation between the last two:
both compute the deformable convolution `conv` of `Proof/Spec.lean`. The kernel does so from every memory,
the reference where every offset lies between -2 and 3, which is what the precondition says.
-/

@[expose] public section

noncomputable section

namespace Cert.Proof

open Idealize.ShloMosaic Idealize.ShloMosaic.TcCoe Idealize.SL.Sem Cert.DeformConv

/-! The side conditions of the four programs. -/

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_offsets_in_reach.Facts := Cert.Pre_offsets_in_reach.Gen.facts

/-- The array that holds the convolution. -/
def convArray (x : Img) (wo : OffW) (bo : OffB) (wc : ConvW) : (⟨4, ![4, 256, 128, 128]⟩ : Shape).Idx → EReal :=
  fun y => conv x wo bo wc (y 0) (y 1) (y 2).val (y 3).val

/-- An array that agrees with the convolution at every index is that array. -/
theorem eq_convArray (x : Img) (wo : OffW) (bo : OffB) (wc : ConvW) (v : (⟨4, ![4, 256, 128, 128]⟩ : Shape).Idx → EReal)
    (hv : ∀ (n : Fin 4) (o : Fin 256) (h w : Fin 128), v (ix4 n o h w) = conv x wo bo wc n o h.val w.val) :
    v = convArray x wo bo wc := by
  funext y
  idx_vars y
  exact hv _ _ _ _

/-- The idealized kernel and the reference compute the same array wherever every offset is within reach. -/
theorem algebraic : Cert.algebraic_KernelIdeal_ReferenceIdeal_pre_offsets_in_reach := by
  intro m g m' g' hpre hagree
  refine ⟨fun c => convArray (KernelIdeal.Body.img m c) (KernelIdeal.Body.offW m c) (KernelIdeal.Body.offB m c)
    (KernelIdeal.Body.convW m c), ?_, ?_⟩
  · exact (θ_run _ _ _).mono (fun r h c => ⟨eq_convArray _ _ _ _ _ (h c).1, (h c).2⟩) (KernelIdeal.Body.run m g)
  · exact (θ_run _ _ _).mono (fun r h c => ⟨eq_convArray _ _ _ _ _ (h c).1, (h c).2⟩)
      (ReferenceIdeal.Conv.run m' g' (KernelIdeal.Body.img m) (KernelIdeal.Body.offW m) (KernelIdeal.Body.offB m)
        (KernelIdeal.Body.convW m) hagree
        fun c n q h w => Cert.Pre_offsets_in_reach.fn_at _ _ _ _ n q h w (congrFun (hpre c) (ix4 n q h w)))

/-- Every claim of the certificate. -/
theorem claim : Cert.Claim :=
  ⟨Cert.Kernel.Gen.facts, Cert.KernelIdeal.Gen.facts, Cert.ReferenceIdeal.Gen.facts, Cert.Pre_offsets_in_reach.Gen.facts,
    fun m g _ => Cert.Kernel.Gen.frame m g,
    fun m g _ => Cert.KernelIdeal.Gen.frame m g,
    fun m g _ => Cert.KernelIdeal.Gen.frame m g,
    fun m g _ => Cert.ReferenceIdeal.Conv.frame m g,
    fun m g _ => Cert.ReferenceIdeal.Conv.frame m g,
    trivial,
    algebraic⟩

end Cert.Proof

end
